-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![2048, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![2048, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![2048, 128]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 128]⟩ ⟨2, ![2048, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : FVec F S512x128 .f32) (main_arg2 : FVec F S512x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Pre_finite_ReferenceIdeal.lean ====
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel

variable [Facts]

def fn {F : FTy → Type} [FloatOps F] (main_arg0 : FVec F S2048x128 .f32) (main_arg1 : FVec F S2048x128 .f32) (main_arg2 : FVec F S2048x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  main_v8
-- ==== Kernel.lean ====
abbrev S512x128 : Shape := ⟨2, ![512, 128]⟩
abbrev S3x512x128 : Shape := ⟨3, ![3, 512, 128]⟩
abbrev S3 : Shape := ⟨1, ![3]⟩
abbrev S_ : Shape := ⟨0, ![]⟩
abbrev S1 : Shape := ⟨1, ![1]⟩
abbrev S1x512x128 : Shape := ⟨3, ![1, 512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S3x512x128, .bf16⟩
  | .local _ .vmem, ⟨7, _⟩ => ⟨S3x512x128, .bf16⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32 : BitVec 32 := 0#32
  let v22 : BitVec 1 := Scalar.cmpi .eq c4_i32_10 c0_i32
  let c1_i32_11 : BitVec 32 := 1#32
  let v23 : BitVec 32 := Scalar.select v22 c1_i32_11 c4_i32_10
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c1_i32_16 : BitVec 32 := 1#32
  let v32 : BitVec 32 := Scalar.muli v31 c1_i32_16
  let v33 : BitVec 32 := Scalar.addi c0_i32_17 v32
  v33.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v34 : BitVec 32 := Scalar.addi v2 c2_i32
  let c4_i32_18 : BitVec 32 := 4#32
  let c0_i32_19 : BitVec 32 := 0#32
  let v35 : BitVec 1 := Scalar.cmpi .eq c4_i32_18 c0_i32_19
  let c1_i32_20 : BitVec 32 := 1#32
  let v36 : BitVec 32 := Scalar.select v35 c1_i32_20 c4_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_25 : BitVec 32 := 1#32
  let v45 : BitVec 32 := Scalar.muli v44 c1_i32_25
  let v46 : BitVec 32 := Scalar.addi c0_i32_26 v45
  v46.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v47 : BitVec 32 := Scalar.addi v2 c3_i32
  let c4_i32_27 : BitVec 32 := 4#32
  let c0_i32_28 : BitVec 32 := 0#32
  let v48 : BitVec 1 := Scalar.cmpi .eq c4_i32_27 c0_i32_28
  let c1_i32_29 : BitVec 32 := 1#32
  let v49 : BitVec 32 := Scalar.select v48 c1_i32_29 c4_i32_27
  let v50 : BitVec 32 := Scalar.remsi v47 v49
  let c0_i32_31 : BitVec 32 := 0#32
  let v52 : BitVec 1 := Scalar.cmpi .slt v50 c0_i32_31
  let c0_i32_32 : BitVec 32 := 0#32
  let v53 : BitVec 1 := Scalar.cmpi .slt v49 c0_i32_32
  let v54 : BitVec 1 := Scalar.xori v52 v53
  let c0_i32_30 : BitVec 32 := 0#32
  let v51 : BitVec 1 := Scalar.cmpi .ne v50 c0_i32_30
  let v55 : BitVec 1 := Scalar.andi v54 v51
  let v56 : BitVec 32 := Scalar.addi v50 v49
  let v57 : BitVec 32 := Scalar.select v55 v56 v50
  let c1_i32_34 : BitVec 32 := 1#32
  let v58 : BitVec 32 := Scalar.muli v57 c1_i32_34
  let v59 : BitVec 32 := Scalar.addi c0_i32_35 v58
  v59.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let v60 : BitVec 32 := Scalar.addi v2 c1_i32_37
  let c4_i32_38 : BitVec 32 := 4#32
  let c0_i32_39 : BitVec 32 := 0#32
  let v61 : BitVec 1 := Scalar.cmpi .eq c4_i32_38 c0_i32_39
  let c1_i32_40 : BitVec 32 := 1#32
  let v62 : BitVec 32 := Scalar.select v61 c1_i32_40 c4_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c1_i32_47 : BitVec 32 := 1#32
  let v71 : BitVec 32 := Scalar.muli v70 c1_i32_47
  let v72 : BitVec 32 := Scalar.addi c0_i32_48 v71
  v72.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_51 : BitVec 32 := 3#32
  let v79 : BitVec 32 := Scalar.addi v2 c3_i32_51
  let c4_i32_52 : BitVec 32 := 4#32
  let c0_i32_53 : BitVec 32 := 0#32
  let v80 : BitVec 1 := Scalar.cmpi .eq c4_i32_52 c0_i32_53
  let c1_i32_54 : BitVec 32 := 1#32
  let v81 : BitVec 32 := Scalar.select v80 c1_i32_54 c4_i32_52
  let v82 : BitVec 32 := Scalar.remsi v79 v81
  let c0_i32_56 : BitVec 32 := 0#32
  let v84 : BitVec 1 := Scalar.cmpi .slt v82 c0_i32_56
  let c0_i32_57 : BitVec 32 := 0#32
  let v85 : BitVec 1 := Scalar.cmpi .slt v81 c0_i32_57
  let v86 : BitVec 1 := Scalar.xori v84 v85
  let c0_i32_55 : BitVec 32 := 0#32
  let v83 : BitVec 1 := Scalar.cmpi .ne v82 c0_i32_55
  let v87 : BitVec 1 := Scalar.andi v86 v83
  let v88 : BitVec 32 := Scalar.addi v82 v81
  let v89 : BitVec 32 := Scalar.select v87 v88 v82
  let c1_i32_61 : BitVec 32 := 1#32
  let v90 : BitVec 32 := Scalar.muli v89 c1_i32_61
  let v91 : BitVec 32 := Scalar.addi c0_i32_62 v90
  v91.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v98 : BitVec 32 := Scalar.addi v2 c2_i32_65
  let c4_i32_66 : BitVec 32 := 4#32
  let c0_i32_67 : BitVec 32 := 0#32
  let v99 : BitVec 1 := Scalar.cmpi .eq c4_i32_66 c0_i32_67
  let c1_i32_68 : BitVec 32 := 1#32
  let v100 : BitVec 32 := Scalar.select v99 c1_i32_68 c4_i32_66
  let v101 : BitVec 32 := Scalar.remsi v98 v100
  let c0_i32_70 : BitVec 32 := 0#32
  let v103 : BitVec 1 := Scalar.cmpi .slt v101 c0_i32_70
  let c0_i32_71 : BitVec 32 := 0#32
  let v104 : BitVec 1 := Scalar.cmpi .slt v100 c0_i32_71
  let v105 : BitVec 1 := Scalar.xori v103 v104
  let c0_i32_69 : BitVec 32 := 0#32
  let v102 : BitVec 1 := Scalar.cmpi .ne v101 c0_i32_69
  let v106 : BitVec 1 := Scalar.andi v105 v102
  let v107 : BitVec 32 := Scalar.addi v101 v100
  let v108 : BitVec 32 := Scalar.select v106 v107 v101
  let c1_i32_75 : BitVec 32 := 1#32
  let v109 : BitVec 32 := Scalar.muli v108 c1_i32_75
  let v110 : BitVec 32 := Scalar.addi c0_i32_76 v109
  v110.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_79 : BitVec 32 := 1#32
  let v117 : BitVec 32 := Scalar.addi v2 c1_i32_79
  let c4_i32_80 : BitVec 32 := 4#32
  let c0_i32_81 : BitVec 32 := 0#32
  let v118 : BitVec 1 := Scalar.cmpi .eq c4_i32_80 c0_i32_81
  let c1_i32_82 : BitVec 32 := 1#32
  let v119 : BitVec 32 := Scalar.select v118 c1_i32_82 c4_i32_80
  let v120 : BitVec 32 := Scalar.remsi v117 v119
  let c0_i32_84 : BitVec 32 := 0#32
  let v122 : BitVec 1 := Scalar.cmpi .slt v120 c0_i32_84
  let c0_i32_85 : BitVec 32 := 0#32
  let v123 : BitVec 1 := Scalar.cmpi .slt v119 c0_i32_85
  let v124 : BitVec 1 := Scalar.xori v122 v123
  let c0_i32_83 : BitVec 32 := 0#32
  let v121 : BitVec 1 := Scalar.cmpi .ne v120 c0_i32_83
  let v125 : BitVec 1 := Scalar.andi v124 v121
  let v126 : BitVec 32 := Scalar.addi v120 v119
  let v127 : BitVec 32 := Scalar.select v125 v126 v120
  let c1_i32_89 : BitVec 32 := 1#32
  let v128 : BitVec 32 := Scalar.muli v127 c1_i32_89
  let v129 : BitVec 32 := Scalar.addi c0_i32_90 v128
  v129.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_93 : BitVec 32 := 3#32
  let v136 : BitVec 32 := Scalar.addi v2 c3_i32_93
  let c4_i32_94 : BitVec 32 := 4#32
  let c0_i32_95 : BitVec 32 := 0#32
  let v137 : BitVec 1 := Scalar.cmpi .eq c4_i32_94 c0_i32_95
  let c1_i32_96 : BitVec 32 := 1#32
  let v138 : BitVec 32 := Scalar.select v137 c1_i32_96 c4_i32_94
  let v139 : BitVec 32 := Scalar.remsi v136 v138
  let c0_i32_98 : BitVec 32 := 0#32
  let v141 : BitVec 1 := Scalar.cmpi .slt v139 c0_i32_98
  let c0_i32_99 : BitVec 32 := 0#32
  let v142 : BitVec 1 := Scalar.cmpi .slt v138 c0_i32_99
  let v143 : BitVec 1 := Scalar.xori v141 v142
  let c0_i32_97 : BitVec 32 := 0#32
  let v140 : BitVec 1 := Scalar.cmpi .ne v139 c0_i32_97
  let v144 : BitVec 1 := Scalar.andi v143 v140
  let v145 : BitVec 32 := Scalar.addi v139 v138
  let v146 : BitVec 32 := Scalar.select v144 v145 v139
  let c1_i32_103 : BitVec 32 := 1#32
  let v147 : BitVec 32 := Scalar.muli v146 c1_i32_103
  let v148 : BitVec 32 := Scalar.addi c0_i32_104 v147
  v148.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_107 : BitVec 32 := 2#32
  let v155 : BitVec 32 := Scalar.addi v2 c2_i32_107
  let c4_i32_108 : BitVec 32 := 4#32
  let c0_i32_109 : BitVec 32 := 0#32
  let v156 : BitVec 1 := Scalar.cmpi .eq c4_i32_108 c0_i32_109
  let c1_i32_110 : BitVec 32 := 1#32
  let v157 : BitVec 32 := Scalar.select v156 c1_i32_110 c4_i32_108
  let v158 : BitVec 32 := Scalar.remsi v155 v157
  let c0_i32_112 : BitVec 32 := 0#32
  let v160 : BitVec 1 := Scalar.cmpi .slt v158 c0_i32_112
  let c0_i32_113 : BitVec 32 := 0#32
  let v161 : BitVec 1 := Scalar.cmpi .slt v157 c0_i32_113
  let v162 : BitVec 1 := Scalar.xori v160 v161
  let c0_i32_111 : BitVec 32 := 0#32
  let v159 : BitVec 1 := Scalar.cmpi .ne v158 c0_i32_111
  let v163 : BitVec 1 := Scalar.andi v162 v159
  let v164 : BitVec 32 := Scalar.addi v158 v157
  let v165 : BitVec 32 := Scalar.select v163 v164 v158
  let c1_i32_117 : BitVec 32 := 1#32
  let v166 : BitVec 32 := Scalar.muli v165 c1_i32_117
  let v167 : BitVec 32 := Scalar.addi c0_i32_118 v166
  v167.toNat
abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S2048x128 : Shape := ⟨2, ![2048, 128]⟩
abbrev S128x2048 : Shape := ⟨2, ![128, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S128x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Protocol.lean ====
/-
The exchange of key and value blocks, as a protocol: who may touch what, and when.

Every device announces itself to the three others on the runtime's barrier semaphore, then sends its own block of
keys and its own block of values to each of them, then receives theirs. A device numbers the others by their
distance around the ring: its target `tgt c j` sits `j + 1` places after it and receives in slot `j` of its landing
buffers. The device that sends into slot `j` of `c` is therefore `tgt c j.rev`.

Sides: `false` is the keys, `true` is the values. Directions: `false` is a send semaphore, `true` a receive one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ShareLeaves
public import Idealize.ShloMosaic.Lib.Ring
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Resources: the pipeline's own and the exchange's, whose duties are numbered by `Fin 3` -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The state the run starts in. -/
def s₀ : MemSt nD τ sig (Elt F) := ⟨m, fun _ => 0, ρ⟩

/-! ## Devices -/

set_option backward.proofsInPublic true in
/-- The device `j + 1` places after `c`. -/
def tgt (c : Dev nD) (j : Fin 3) : Dev nD := ⟨(c.val + j.val + 1) % 4, Nat.mod_lt _ (by decide)⟩

theorem tgt_rev (c : Dev nD) (j : Fin 3) : tgt (tgt c j) j.rev = c := by revert c j; decide
theorem rev_tgt (c : Dev nD) (j : Fin 3) : tgt (tgt c j.rev) j = c := by revert c j; decide

/-- Going `j + 1` places on is undone by going `j.rev + 1` places on. -/
def turn (j : Fin 3) : Dev nD ≃ Dev nD := ⟨fun c => tgt c j, fun c => tgt c j.rev, fun c => tgt_rev c j, fun c => rev_tgt c j⟩

/-- The devices the kernel computes: three signals, three sends of keys, three sends of values. -/
theorem dev1_eq (c : Dev nD) : (⟨k0_dev1 c, k0_dev1_lt c⟩ : Dev nD) = tgt c 0 := by revert c; decide
theorem dev2_eq (c : Dev nD) : (⟨k0_dev2 c, k0_dev2_lt c⟩ : Dev nD) = tgt c 1 := by revert c; decide
theorem dev3_eq (c : Dev nD) : (⟨k0_dev3 c, k0_dev3_lt c⟩ : Dev nD) = tgt c 2 := by revert c; decide
theorem dev4_eq (c : Dev nD) : (⟨k0_dev4 c, k0_dev4_lt c⟩ : Dev nD) = tgt c 0 := by revert c; decide
theorem dev5_eq (c : Dev nD) : (⟨k0_dev5 c, k0_dev5_lt c⟩ : Dev nD) = tgt c 2 := by revert c; decide
theorem dev6_eq (c : Dev nD) : (⟨k0_dev6 c, k0_dev6_lt c⟩ : Dev nD) = tgt c 1 := by revert c; decide
theorem dev7_eq (c : Dev nD) : (⟨k0_dev7 c, k0_dev7_lt c⟩ : Dev nD) = tgt c 0 := by revert c; decide
theorem dev8_eq (c : Dev nD) : (⟨k0_dev8 c, k0_dev8_lt c⟩ : Dev nD) = tgt c 2 := by revert c; decide
theorem dev9_eq (c : Dev nD) : (⟨k0_dev9 c, k0_dev9_lt c⟩ : Dev nD) = tgt c 1 := by revert c; decide

/-! ## Buffers -/

/-- The buffer a side's own block is sent from. -/
abbrev locM (b : Bool) : Memref sig .tc .vmem S512x128 .bf16 :=
  match b with | false => Memref.whole cc0_scratch0 | true => Memref.whole cc0_scratch1
/-- The buffer a side's three foreign blocks land in. -/
abbrev bufM (b : Bool) : Memref sig .tc .vmem S3x512x128 .bf16 :=
  match b with | false => Memref.whole cc0_scratch2 | true => Memref.whole cc0_scratch3

theorem slot_inb (j : Fin 3) : ∀ a, (![j.val, 0, 0] : Fin 3 → Nat) a + S1x512x128.size a ≤ S3x512x128.size a := by revert j; decide

/-- The part of a landing buffer that slot `j` is. -/
abbrev slotR (j : Fin 3) : Rect S3x512x128 := Rect.unit (s := S3x512x128) ![j.val, 0, 0] S1x512x128.size (slot_inb j)
/-- Slot `j` as a block. -/
abbrev slotM (b : Bool) (j : Fin 3) : Memref sig .tc .vmem S512x128 .bf16 :=
  ((bufM b).slice (slotR j) (fun _ => rfl)).squeeze S512x128 squeezes_S1x512x128_S512x128

/-- What one block counts for on a transfer's semaphore. -/
abbrev N : ℕ := (locM false).view.dmaCredit
theorem N_pos : 0 < N := View.dmaCredit_pos _ (by decide)
theorem loc_credit (b : Bool) : (locM b).view.dmaCredit = N := by cases b <;> rfl
theorem slot_credit (b : Bool) (j : Fin 3) : (slotM b j).view.dmaCredit = N := by cases b <;> rfl
theorem slot_amount (b : Bool) (j : Fin 3) (s : DmaSem sig) : (slotM b j).view.amount (.dma s) = N := by cases b <;> rfl

/-! ## Semaphores -/

/-- The runtime's barrier semaphore. -/
abbrev barS : Sem sig := (SemArray.scalar (sig.barrier 0 rfl) : Sems sig S_).sem

set_option backward.proofsInPublic true in
/-- The place of a transfer's semaphore among the kernel's twelve. -/
abbrev kx (b r : Bool) (j : Fin 3) : Fin 12 := ⟨6 * b.toNat + 3 * r.toNat + j.val, by cases b <;> cases r <;> fin_cases j <;> decide⟩

set_option backward.proofsInPublic true in
/-- The kernel's own semaphores, in order. -/
abbrev own (k : Fin 12) : DmaSem sig := ⟨4 + k.val, by have := k.isLt; show _ < 16; omega⟩
abbrev dsem (b r : Bool) (j : Fin 3) : DmaSem sig := own (kx b r j)

abbrev osem : Fin 12 → SemLoc sig := fun k => .dma (own k)
/-- All thirteen: the barrier semaphore, then the kernel's own. -/
abbrev csem : Fin 13 → SemLoc sig := Fin.cons (.reg barS) osem
abbrev kcell (ck : Dev nD × Fin 13) : GSem nD τ sig := ((ck.1 : Thread nD τ), csem ck.2)
abbrev barC (c : Dev nD) : GSem nD τ sig := ((c : Thread nD τ), .reg barS)
abbrev dmaC (b r : Bool) (c : Dev nD) (j : Fin 3) : GSem nD τ sig := ((c : Thread nD τ), .dma (dsem b r j))

/-- What a semaphore's place says of it: its side, whether it counts arrivals, its slot. -/
def sideOf (s : DmaSem sig) : Bool := decide (10 ≤ s.val)
def isRecv (s : DmaSem sig) : Bool := decide (3 ≤ (s.val - 4) % 6)
set_option backward.proofsInPublic true in
def slotOf (s : DmaSem sig) : Fin 3 := ⟨(s.val - 4) % 3, Nat.mod_lt _ (by decide)⟩

theorem sideOf_dsem (b r : Bool) (j : Fin 3) : sideOf (dsem b r j) = b := by revert b r j; decide
theorem isRecv_dsem (b r : Bool) (j : Fin 3) : isRecv (dsem b r j) = r := by revert b r j; decide
theorem slotOf_dsem (b r : Bool) (j : Fin 3) : slotOf (dsem b r j) = j := by revert b r j; decide
theorem le_own (k : Fin 12) : 4 ≤ (own k).val := Nat.le_add_right _ _

/-! ## Contents -/

/-- A device's staged blocks of queries, keys and values. -/
def qstg (c : Dev nD) : Vec F S512x128 .f32 := (win0_0.blk (0 : Fin 1)).view.read (Elt F) ((s₀ m ρ).mem ((c : Thread nD τ).loc main_arg0))
def kstg (c : Dev nD) : Vec F S512x128 .f32 := (win0_1.blk (0 : Fin 1)).view.read (Elt F) ((s₀ m ρ).mem ((c : Thread nD τ).loc main_arg1))
def vstg (c : Dev nD) : Vec F S512x128 .f32 := (win0_2.blk (0 : Fin 1)).view.read (Elt F) ((s₀ m ρ).mem ((c : Thread nD τ).loc main_arg2))

/-- The block a device sends on a side. -/
def blk (b : Bool) (c : Dev nD) : Vec F S512x128 .bf16 :=
  match b with | false => k0_pay1 (kstg m ρ c) | true => k0_pay2 (vstg m ρ c)

/-- The share of its own block a device lends to the send with number `j`; the last is kept to read from. -/
abbrev lent (j : Fin 4) : PosShare TreeShare := ShareLeaves.leaf 2 fullShare j

abbrev own' (c : Dev nD) (M : Memref sig .tc .vmem S512x128 .bf16) (q : PosShare TreeShare) (X : Vec F S512x128 .bf16) : sProp 𝕄 :=
  owns (Ix := Unit) (Name := ℕ) (U := UU) (Lvl := ℕ) (c : Thread nD τ) M q X

/-- Slot `j` of a device, at some contents. -/
def freeSlot (b : Bool) (c : Dev nD) (j : Fin 3) : sProp 𝕄 := iprop(∃ X : Vec F S512x128 .bf16, own' c (slotM b j) fullShare X)

instance freeSlot_storable (b : Bool) (c : Dev nD) (j : Fin 3) : BI.Storable (upEmb : UEmb _ 𝕄) (freeSlot (F := F) b c j) := by
  unfold freeSlot; infer_instance

/-! ## The schedule -/

/-- A device's barrier duty `i` is paid by the device `i + 1` places on, which hands over its slots `i`, empty. -/
def barPay (c : Dev nD) (i : Fin 3) : sProp 𝕄 := iprop(freeSlot false (tgt c i) i ∗ freeSlot true (tgt c i) i)
/-- A transfer's arrival: the slot holding the sender's block; -/
def recvPay (b : Bool) (c : Dev nD) (j : Fin 3) : sProp 𝕄 := own' c (slotM b j) fullShare (blk m ρ b (tgt c j.rev))
/-- its departure: the share of the block it was sent from. -/
def sendPay (b : Bool) (c : Dev nD) (j : Fin 3) : sProp 𝕄 := own' c (locM b) (lent j.castSucc) (blk m ρ b c)

def dmaPay (c : Dev nD) (s : DmaSem sig) : sProp 𝕄 :=
  if isRecv s then recvPay m ρ (sideOf s) c (slotOf s) else sendPay m ρ (sideOf s) c (slotOf s)

instance barPay_storable (c : Dev nD) (i : Fin 3) : BI.Storable (upEmb : UEmb _ 𝕄) (barPay (F := F) c i) := by
  unfold barPay; infer_instance
instance dmaPay_storable (c : Dev nD) (s : DmaSem sig) : BI.Storable (upEmb : UEmb _ 𝕄) (dmaPay (F := F) m ρ c s) := by
  unfold dmaPay recvPay sendPay; split <;> infer_instance

def dutySet : SemLoc sig → Finset (Fin 3)
  | .reg s => if s = barS then Finset.univ else ∅
  | .dma s => if 4 ≤ s.val then {0} else ∅
def unitOf : SemLoc sig → ℕ
  | .reg _ => 1
  | .dma _ => N
def payOf (c : Dev nD) (d : Fin 3) : SemLoc sig → sProp 𝕄
  | .reg _ => barPay c d
  | .dma s => dmaPay m ρ c s

instance payOf_storable (c : Dev nD) (d : Fin 3) (s : SemLoc sig) : BI.Storable (upEmb : UEmb _ 𝕄) (payOf (F := F) m ρ c d s) := by
  cases s <;> (unfold payOf; infer_instance)

/-- One round: three units on a barrier cell, one block on each transfer's. -/
def Rd : Rounds.Schedule (GSem nD τ sig) (Fin 3) 𝕄 where
  duties g r := if r = 0 ∧ g.1.2 = .tc then dutySet g.2 else ∅
  unitless _ := False
  amount g _ _ := unitOf g.2
  payload g _ d := payOf m ρ g.1.1 d g.2
  amount_pos g _ _ _ := by
    obtain ⟨_, s | s⟩ := g
    · exact Nat.one_pos
    · exact N_pos

instance Rd_storable (g : GSem nD τ sig) (r : ℕ) (d : Fin 3) : BI.Storable (upEmb : UEmb _ 𝕄) ((Rd (F := F) m ρ).payload g r d) := by
  show BI.Storable upEmb (payOf m ρ g.1.1 d g.2); infer_instance

section Sched
variable (c : Dev nD) (b r : Bool) (j : Fin 3)

theorem duties_bar : (Rd (F := F) m ρ).duties (barC c) 0 = Finset.univ := rfl
theorem duties_own (k : Fin 12) : (Rd (F := F) m ρ).duties ((c : Thread nD τ), osem k) 0 = {0} := by
  dsimp only [Rd]
  rw [if_pos (And.intro rfl rfl)]
  exact if_pos (le_own k)
theorem duties_later (g : GSem nD τ sig) : ∀ r, 1 ≤ r → (Rd (F := F) m ρ).duties g r = ∅ :=
  fun r hr => if_neg fun h => by omega

theorem expect_bar : (Rd (F := F) m ρ).expect (barC c) 0 = 3 := by
  unfold Schedule.expect Schedule.amountOf
  rw [duties_bar]
  exact Finset.sum_const _
theorem expect_dma : (Rd (F := F) m ρ).expect (dmaC b r c j) 0 = N := by
  unfold Schedule.expect Schedule.amountOf; rw [duties_own, Finset.sum_singleton]; rfl

theorem pay_bar (i : Fin 3) : (Rd (F := F) m ρ).payload (barC c) 0 i = barPay c i := rfl
theorem pay_recv (d : Fin 3) : (Rd (F := F) m ρ).payload (dmaC b true c j) 0 d = recvPay m ρ b c j := by
  show dmaPay m ρ c (dsem b true j) = _
  unfold dmaPay; rw [isRecv_dsem, sideOf_dsem, slotOf_dsem]; rfl
theorem pay_send (d : Fin 3) : (Rd (F := F) m ρ).payload (dmaC b false c j) 0 d = sendPay m ρ b c j := by
  show dmaPay m ρ c (dsem b false j) = _
  unfold dmaPay; rw [isRecv_dsem, sideOf_dsem, slotOf_dsem]; rfl

/-- All a barrier cell's round hands over: every other device's slots that `c` sends to. -/
theorem rest_bar : bigSep ((Rd (F := F) m ρ).duties (barC c) 0 \ ∅) (fun d => (Rd (F := F) m ρ).payload (barC c) 0 d)
    = iprop(barPay (F := F) c 0 ∗ barPay (F := F) c 1 ∗ barPay (F := F) c 2) := by
  rw [Finset.sdiff_empty, duties_bar]
  exact bigSep_univ_eq_bigSepL [0, 1, 2] (by decide) (by decide) _
theorem rest_recv : bigSep ((Rd (F := F) m ρ).duties (dmaC b true c j) 0 \ ∅) (fun d => (Rd (F := F) m ρ).payload (dmaC b true c j) 0 d)
    = recvPay m ρ b c j := by
  rw [Finset.sdiff_empty, duties_own, bigSep_singleton, pay_recv]
theorem rest_send : bigSep ((Rd (F := F) m ρ).duties (dmaC b false c j) 0 \ ∅) (fun d => (Rd (F := F) m ρ).payload (dmaC b false c j) 0 d)
    = sendPay m ρ b c j := by
  rw [Finset.sdiff_empty, duties_own, bigSep_singleton, pay_send]

end Sched

/-! ## Debts -/

/-- What a device pays: `none` is its signal number `j`, `some b` its send of side `b` number `j`. -/
abbrev Due : Type := Option Bool × Fin 3

def dueSem : Due → SemLoc sig
  | (none, _) => .reg barS
  | (some b, j) => .dma (dsem b true j)
def dueAmt : Due → ℕ
  | (none, _) => 1
  | (some _, _) => N
def dueCell (c : Dev nD) (x : Due) : GSem nD τ sig := ((tgt c x.2 : Thread nD τ), dueSem x)

/-- What a device still owes, the next payment at the head. -/
def owed (c : Dev nD) : List Due → CellTallies nD τ sig Unit
  | [] => 0
  | x :: l => owed c l + tallyAt (dueCell c x) () (dueAmt x)

/-- The sends in program order, and the whole program's payments. -/
abbrev sends : List Due := [(some false, 0), (some false, 2), (some false, 1), (some true, 0), (some true, 2), (some true, 1)]
abbrev dues : List Due := (none, 0) :: (none, 1) :: (none, 2) :: sends

theorem owed_apply (c : Dev nD) (g : GSem nD τ sig) (l : List Due) :
    owed c l g () = (l.map fun x => if g = dueCell c x then dueAmt x else 0).sum := by
  induction l with
  | nil => rfl
  | cons x l ih =>
    rw [owed, Pi.add_apply, Finsupp.add_apply, ih, List.map_cons, List.sum_cons, tallyAt_apply, Nat.add_comm]
    congr 1
    by_cases h : g = dueCell c x
    · rw [if_pos ⟨h, rfl⟩, if_pos h]
    · rw [if_neg fun h' => h h'.1, if_neg h]

theorem owed_pos {c : Dev nD} {l : List Due} {g : GSem nD τ sig} {u : Unit} (h : 0 < owed c l g u) : ∃ x ∈ l, g = dueCell c x := by
  cases u
  induction l with
  | nil => exact absurd h (Nat.lt_irrefl 0)
  | cons x l ih =>
    by_cases hg : g = dueCell c x
    · exact ⟨x, List.mem_cons_self, hg⟩
    · rw [owed, Pi.add_apply, Finsupp.add_apply, tallyAt_apply, if_neg fun h' => hg h'.1, Nat.add_zero] at h
      obtain ⟨y, hy, hy'⟩ := ih h
      exact ⟨y, List.mem_cons_of_mem _ hy, hy'⟩

def L (g : GSem nD τ sig) : Finset Unit := if g.1.2 = .tc then {()} else ∅
def lvOf : SemLoc sig → ℕ
  | .reg _ => 1
  | .dma s => if 4 ≤ s.val ∧ isRecv s = true then 2 else 0
/-- The order waits respect: staging and departures first, the barrier next, arrivals last. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_send (c : Dev nD) (b : Bool) (j : Fin 3) : lv (dueCell c (some b, j)) () = 2 :=
  if_pos ⟨le_own _, isRecv_dsem b true j⟩
theorem lv_due (c : Dev nD) (x : Due) : 0 < lv (dueCell c x) () := by
  obtain ⟨_ | b, j⟩ := x
  · exact Nat.one_pos
  · rw [lv_send]; decide

/-- A wait at a level below all that is owed is allowed. -/
theorem mayWait_below (c : Dev nD) (sm : SemLoc sig) (l : List Due) (n : ℕ) (hn : lvOf sm ≤ n) (hl : ∀ x ∈ l, n < lv (dueCell c x) ()) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp]; exact hn)
    (fun g u hg => by obtain ⟨x, hx, rfl⟩ := owed_pos hg; exact hl x hx)

theorem mayWait_stage (c : Dev nD) (q : DmaSem sig) (hq : q.val < 4) (l : List Due) :
    (levAts L lv : sProp 𝕄) ⊢ MayWait (c : Thread nD τ) (.dma q) () (owed c l) :=
  mayWait_below c _ l 0 (le_of_eq (if_neg fun h => by omega)) fun x _ => lv_due c x

/-- At its barrier wait a device owes its six sends. -/
theorem mayWait_bar (c : Dev nD) : (levAts L lv : sProp 𝕄) ⊢ MayWait (c : Thread nD τ) (.reg barS) () (owed c sends) :=
  mayWait_below c _ sends 1 (le_refl _) fun x hx => by
    simp only [sends, List.mem_cons, List.not_mem_nil, or_false] at hx
    rcases hx with rfl | rfl | rfl | rfl | rfl | rfl <;> (rw [lv_send]; decide)

end Cert.KernelIdeal.Exchange

end
-- ==== Proof.KernelIdeal.Slots.lean ====
/-
Buffers taken apart and put together: a landing buffer as its three slots, a block held whole as the shares lent to
its three sends and the share kept.
-/
module

public import proofs.«01_k».proof.Proof.KernelIdeal.Protocol
public import Idealize.ShloMosaic.Lib.ViewIndex

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- A landing buffer, whole, at some contents. -/
def bufSt (b : Bool) (c : Dev nD) : sProp 𝕄 :=
  iprop(∃ f : Buf (Elt F) ((bufM b).view.loc (c : Thread nD τ)), (bufM b).view.loc (c : Thread nD τ) ↦{fullShare} f)

/-- The elements of slot `j`. -/
abbrev slotSet (b : Bool) (j : Fin 3) : Finset (bufM b).view.ty.Idx := (slotM b j).view.set

theorem slotSet_eq (b : Bool) (j : Fin 3) : slotSet b j = ((bufM b).view.slice (slotR j)).set := Memref.set_view_squeeze _ _

theorem slots_disjoint (b : Bool) (j j' : Fin 3) (h : j ≠ j') : Disjoint (slotSet b j) (slotSet b j') := by
  rw [slotSet_eq, slotSet_eq]
  refine View.disjoint_slice (Rect.unit_disjoint (0 : Fin 3) ?_)
  have : j.val ≠ j'.val := fun e => h (Fin.ext e)
  show j.val + 1 ≤ j'.val ∨ j'.val + 1 ≤ j.val
  omega

theorem slots_cover (b : Bool) : Finset.univ.biUnion (slotSet b) = Finset.univ := by
  refine Finset.eq_univ_of_forall fun i => ?_
  have key : ∀ i : S3x512x128.Idx, ∃ j : Fin 3, i ∈ (slotR j).set := fun i =>
    ⟨i 0, Rect.mem_set_unit.mpr fun a => by
      have := (i a).isLt
      fin_cases a
      · exact ⟨Nat.le_refl _, Nat.lt_succ_self _⟩
      · exact ⟨Nat.zero_le _, by simpa using this⟩
      · exact ⟨Nat.zero_le _, by simpa using this⟩⟩
  obtain ⟨j, hj⟩ : ∃ j : Fin 3, i ∈ slotSet b j := by
    cases b
    · obtain ⟨j, hj⟩ := key i
      exact ⟨j, by rw [slotSet_eq]; exact (View.set_slice_whole cc0_scratch2 (slotR j)).symm ▸ hj⟩
    · obtain ⟨j, hj⟩ := key i
      exact ⟨j, by rw [slotSet_eq]; exact (View.set_slice_whole cc0_scratch3 (slotR j)).symm ▸ hj⟩
  exact Finset.mem_biUnion.mpr ⟨j, Finset.mem_univ j, hj⟩

/-- A slot at some contents is its elements at some contents. -/
theorem freeSlot_eq (b : Bool) (c : Dev nD) (j : Fin 3) :
    (freeSlot b c j : sProp 𝕄) ⊣⊢ iprop(∃ f : Buf (Elt F) ((bufM b).view.loc (c : Thread nD τ)), (bufM b).view.loc (c : Thread nD τ) ↦[slotSet b j]{fullShare} f) := by
  unfold freeSlot own' owns
  constructor
  · iintro ⟨%X, %f, -, H⟩; iexists f; iexact H
  · iintro ⟨%f, H⟩; iexists _; iexists f; isplitr; · (ipureintro; rfl)
    iexact H

theorem fin3_chain (Φ : Fin 3 → sProp 𝕄) : bigSep Finset.univ Φ = iprop(Φ 0 ∗ Φ 1 ∗ Φ 2) :=
  bigSep_univ_eq_bigSepL [0, 1, 2] (by decide) (by decide) Φ

theorem buf_split (b : Bool) (c : Dev nD) : (bufSt b c : sProp 𝕄) ⊢ iprop(freeSlot b c 0 ∗ freeSlot b c 1 ∗ freeSlot b c 2) := by
  unfold bufSt
  iintro ⟨%f, H⟩
  ihave H' := (Entails.of_eq ((Ring.pointsTo_blocks (ℓ := (bufM b).view.loc (c : Thread nD τ)) (slotSet b) (slots_disjoint b) (slots_cover b) f).trans (fin3_chain _))) $$ H
  icases H' with ⟨H0, H1, H2⟩
  isplitl [H0]; · iapply (freeSlot_eq b c 0).2; iexists f; iexact H0
  isplitl [H1]; · iapply (freeSlot_eq b c 1).2; iexists f; iexact H1
  iapply (freeSlot_eq b c 2).2; iexists f; iexact H2

/-- The elements of slot `j` of a device, at some contents. -/
def slotSt (b : Bool) (c : Dev nD) (j : Fin 3) : sProp 𝕄 :=
  iprop(∃ f : Buf (Elt F) ((bufM b).view.loc (c : Thread nD τ)), (bufM b).view.loc (c : Thread nD τ) ↦[slotSet b j]{fullShare} f)

theorem slotSt_join (b : Bool) (c : Dev nD) (f : Buf (Elt F) ((bufM b).view.loc (c : Thread nD τ))) :
    iprop(slotSt b c 0 ∗ slotSt b c 1 ∗ slotSt b c 2) ⊢ (bufSt b c : sProp 𝕄) :=
  (Entails.of_eq (fin3_chain fun j => slotSt b c j).symm).trans
    (Ring.pointsTo_blocks_join_exists (ℓ := (bufM b).view.loc (c : Thread nD τ)) (q := fullShare) (slotSet b) (slots_disjoint b) (slots_cover b) f)

theorem buf_join (b : Bool) (c : Dev nD) : iprop(freeSlot b c 0 ∗ freeSlot b c 1 ∗ freeSlot b c 2) ⊢ (bufSt b c : sProp 𝕄) := by
  refine (show _ ⊢ iprop(slotSt b c 0 ∗ slotSt b c 1 ∗ slotSt b c 2) from
    BI.sep_mono (freeSlot_eq b c 0).1 (BI.sep_mono (freeSlot_eq b c 1).1 (freeSlot_eq b c 2).1)).trans ?_
  have h : (slotSt b c 0 : sProp 𝕄) ⊢ iprop(∃ f : Buf (Elt F) ((bufM b).view.loc (c : Thread nD τ)), ⌜True⌝ ∗ slotSt b c 0) := by
    unfold slotSt
    iintro ⟨%f, H⟩; iexists f; isplitr; · (ipureintro; trivial)
    iexists f; iexact H
  iintro ⟨H0, H⟩
  ihave H0 := h $$ H0
  icases H0 with ⟨%f, -, H0⟩
  iapply (slotSt_join b c f)
  isplitl [H0] <;> iassumption

/-- A block held whole is the three shares its sends take and the one it is read through. -/
theorem loc_shares (b : Bool) (c : Dev nD) (X : Vec F S512x128 .bf16) :
    (own' c (locM b) fullShare X : sProp 𝕄)
      = iprop(own' c (locM b) (lent 0) X ∗ own' c (locM b) (lent 1) X ∗ own' c (locM b) (lent 2) X ∗ own' c (locM b) (lent 3) X) := by
  unfold own'
  cases b
  · simp only [owns_whole]
    rw [ShareLeaves.pointsTo_leaves Finset.univ _ 2 fullShare]
    exact bigSep_univ_eq_bigSepL [0, 1, 2, 3] (by decide) (by decide) _
  · simp only [owns_whole]
    rw [ShareLeaves.pointsTo_leaves Finset.univ _ 2 fullShare]
    exact bigSep_univ_eq_bigSepL [0, 1, 2, 3] (by decide) (by decide) _

end Cert.KernelIdeal.Exchange

end
-- ==== Proof.KernelIdeal.Steps.lean ====
/-
The kernel's communication, one rule for each kind of step: announce, wait for the announcements, send a block,
receive one, take back the share a send was lent, read a slot.
-/
module

public import proofs.«01_k».proof.Proof.KernelIdeal.Slots

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Fin 13 → ℕ)

/-- Every cell's invariant, under the names `K`, and that every cell is at round 0 or later: known to all. -/
def records : sProp 𝕄 :=
  iprop((bigSep Finset.univ fun ck : Dev nD × Fin 13 => cellInv ER (Rd m ρ) (K ck) (kcell ck))
    ∗ bigSep Finset.univ fun ck : Dev nD × Fin 13 => reached ER (kcell ck) 0)

instance records_persistent : BI.Persistent (records (F := F) m ρ K) := by unfold records; infer_instance

theorem inv_at (c : Dev nD) (k : Fin 13) : (records m ρ K : sProp 𝕄) ⊢ cellInv ER (Rd m ρ) (K (c, k)) (kcell (c, k)) :=
  (show (records m ρ K : sProp 𝕄) ⊢ bigSep Finset.univ fun ck : Dev nD × Fin 13 => cellInv ER (Rd m ρ) (K ck) (kcell ck) from by
    unfold records; iintro ⟨H, -⟩; iexact H).trans (bigSep_elim (Finset.mem_univ (c, k)))
theorem reached_at (c : Dev nD) (k : Fin 13) : (records m ρ K : sProp 𝕄) ⊢ reached ER (kcell (c, k)) 0 :=
  (show (records m ρ K : sProp 𝕄) ⊢ bigSep Finset.univ fun ck : Dev nD × Fin 13 => reached ER (kcell ck) 0 from by
    unfold records; iintro ⟨-, H⟩; iexact H).trans (bigSep_elim (Finset.mem_univ (c, k)))

theorem inv_bar (c : Dev nD) : (records m ρ K : sProp 𝕄) ⊢ cellInv ER (Rd m ρ) (K (c, 0)) (barC c) := inv_at m ρ K c 0
theorem inv_dma (b r : Bool) (c : Dev nD) (j : Fin 3) :
    (records m ρ K : sProp 𝕄) ⊢ cellInv ER (Rd m ρ) (K (c, (kx b r j).succ)) (dmaC b r c j) := inv_at m ρ K c (kx b r j).succ
theorem reached_bar (c : Dev nD) : (records m ρ K : sProp 𝕄) ⊢ reached ER (barC c) 0 := reached_at m ρ K c 0
theorem reached_dma (b r : Bool) (c : Dev nD) (j : Fin 3) : (records m ρ K : sProp 𝕄) ⊢ reached ER (dmaC b r c j) 0 :=
  reached_at m ρ K c (kx b r j).succ

/-! ## What a device holds of one send and of the arrival numbered like it -/

/-- Before the send; -/
def lane (b : Bool) (c : Dev nD) (j : Fin 3) : sProp 𝕄 :=
  iprop(atPos ER (dmaC b false c j) 0 ∅ 0 ∗ atPos ER (dmaC b true c j) 0 ∅ 0 ∗ cred (tallyAt (dmaC b true c j) () N)
    ∗ dutyTok ER (dmaC b false c j) 0 0 ∗ dutyTok ER (dmaC b true (tgt c j) j) 0 0)
/-- once sent; -/
def sent (b : Bool) (c : Dev nD) (j : Fin 3) : sProp 𝕄 :=
  iprop(atPos ER (dmaC b false c j) 0 ∅ 0 ∗ atPos ER (dmaC b true c j) 0 ∅ 0 ∗ cred (tallyAt (dmaC b true c j) () N)
    ∗ cred (tallyAt (dmaC b false c j) () N))
/-- once the arrival is in; -/
def got (b : Bool) (c : Dev nD) (j : Fin 3) : sProp 𝕄 :=
  iprop(atPos ER (dmaC b false c j) 0 ∅ 0 ∗ cred (tallyAt (dmaC b false c j) () N) ∗ semVal (dmaC b true c j) 0)
/-- once the departure is in too. -/
def over (b : Bool) (c : Dev nD) (j : Fin 3) : sProp 𝕄 := iprop(semVal (dmaC b false c j) 0 ∗ semVal (dmaC b true c j) 0)

/-- What a device still owes, whatever it has waited on. -/
def debts (c : Dev nD) (l : List Due) : sProp 𝕄 := iprop(∃ W : Waits sig Unit, owes (c : Thread nD τ) (owed c l) W)

/-- Announce: signal number `j` hands the device `j + 1` places on the slots it will send into. -/
theorem step_signal {α : Type} {Q : α → sProp 𝕄} {k : PUnit → Prog (TpuEff nD τ sig (Elt F) Λ₀ .tc) α}
    (c n : Dev nD) (j : Fin 3) (hn : n = tgt c j) (u : ℕ) (hu : 1 = u) (l : List Due) :
    iprop(records m ρ K ∗ debts c ((none, j) :: l) ∗ dutyTok ER (barC (tgt c j)) 0 j.rev ∗ freeSlot false c j.rev ∗ freeSlot true c j.rev)
      ⊢ iprop((debts c l -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS u) k) Q) := by
  subst hn hu
  unfold debts
  iintro ⟨#HR, ⟨%W, HO⟩, Ht, H0, H1⟩ Hk
  iapply (Rounds.wp_signal 𝒱₀ ER (Rd m ρ) (c : Thread nD τ) none (dst := (tgt c j : Thread nD τ)) (κ := K (tgt c j, 0))
    (d := j.rev) (by rw [duties_bar]; exact Finset.mem_univ _) rfl () (owed c l) rfl) $$ [HO Ht H0 H1]
  · isplitr; · iapply (inv_bar m ρ K (tgt c j)); iexact HR
    isplitl [HO]; · iexact HO
    isplitl [Ht]; · iexact Ht
    isplitl [H0 H1]
    · rw [pay_bar]; unfold barPay; rw [tgt_rev]
      isplitl [H0] <;> iassumption
    iapply (reached_bar m ρ K (tgt c j)); iexact HR
  iintro HO
  iapply Hk
  iexists W; iexact HO

/-- Wait for the three announcements: the slots this device sends into are its to fill. -/
theorem step_meet {α : Type} {Q : α → sProp 𝕄} {k : PUnit → Prog (TpuEff nD τ sig (Elt F) Λ₀ .tc) α}
    (c : Dev nD) (u : ℕ) (hu : 3 = u) :
    iprop(records m ρ K ∗ levAts L lv ∗ cred (tallyAt (barC c) () 3) ∗ debts c sends ∗ atPos ER (barC c) 0 ∅ 0)
      ⊢ iprop(((debts c sends ∗ semVal (barC c) 0 ∗ barPay (F := F) c 0 ∗ barPay (F := F) c 1 ∗ barPay (F := F) c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  unfold debts
  iintro ⟨#HR, #Hlev, Hc, ⟨%W, HO⟩, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := owed c sends) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hp⟩
  ihave Hp := (Entails.of_eq (rest_bar m ρ c)) $$ Hp
  icases Hp with ⟨H0, H1, H2⟩
  imod (Rounds.cell_close ER (Rd m ρ) (Set.mem_univ (K (c, 0))) (fun h => h) (R := 0 + 1) (duties_later m ρ (barC c))) $$ [Hat] with Hz
  · isplitr; · iapply (inv_bar m ρ K c); iexact HR
    iexact Hat
  iapply Hk
  isplitl [HO]; · iexists _; iexact HO
  isplitl [Hz]; · iexact Hz
  isplitl [H0]; · iexact H0
  isplitl [H1] <;> iassumption

/-- Send a block into slot `j` of the device `j + 1` places on. -/
theorem step_send {α : Type} {Q : α → sProp 𝕄} {k : PUnit → Prog (TpuEff nD τ sig (Elt F) Λ₀ .tc) α}
    (b : Bool) (c n : Dev nD) (j : Fin 3) (hn : n = tgt c j) (M M' : Memref sig .tc .vmem S512x128 .bf16)
    (hM : M = locM b) (hM' : M' = slotM b j) (s s' : DmaSem sig) (hs : s = dsem b false j) (hs' : s' = dsem b true j)
    {hsc : (M' : Memref sig (Dev.tc n : Thread nD τ).2.kind .vmem S512x128 .bf16).view.ref.isScScratch = false}
    {hsrc : M.view.WordExact} {hdst : M'.view.WordExact}
    {hsem : DmaTarget.Typed .vmem (.dma s') (.remote (Dev.tc n : Thread nD τ) (M' : Memref sig (Dev.tc n : Thread nD τ).2.kind .vmem S512x128 .bf16) (.dma s) hsc)}
    (l : List Due) :
    iprop(records m ρ K ∗ lane b c j ∗ own' c (locM b) (lent j.castSucc) (blk m ρ b c) ∗ freeSlot b (tgt c j) j ∗ debts c ((some b, j) :: l))
      ⊢ iprop(((sent b c j ∗ debts c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma M (.remote (Dev.tc n : Thread nD τ) M' (.dma s) hsc) (.dma s') hsrc hdst hsem) k) Q) := by
  subst hn hM hM' hs hs'
  unfold own' owns freeSlot own' owns lane debts
  iintro ⟨#HR, ⟨Ha, Ha', Hc, Ht, Ht'⟩, ⟨%f, %hf, Hs⟩, ⟨%X, %g, -, Hd⟩, ⟨%W, HO⟩⟩ Hk
  iapply (Rounds.wp_send_pointsTo 𝒱₀ ER (Rd m ρ) (c : Thread nD τ) none (κ₁ := K (c, (kx b false j).succ)) (κ₂ := K (tgt c j, (kx b true j).succ))
    (r₁ := 0) (r₂ := 0) (d₁ := 0) (d₂ := 0) (fs := f) (fd := g)
    (by rw [duties_own]; exact Finset.mem_singleton_self _) (by rw [duties_own]; exact Finset.mem_singleton_self _)
    () () N (slot_amount b j _) rfl rfl (owed c l) rfl (W := W)
    (by
      rw [pay_send]; unfold sendPay own' owns
      iintro H; iexists f; isplitr; · (ipureintro; exact hf)
      iexact H)
    (by
      rw [pay_recv]; unfold recvPay own' owns; rw [tgt_rev]
      iintro H; iexists ((slotM b j).view.write (Elt F) g ((locM b).view.read (Elt F) f) Finset.univ); isplitr
      · ipureintro; exact (View.read_write_univ _ _).trans hf
      iexact H)) $$ [Hs Hd HO Ht Ht']
  · isplitr; · iapply (inv_dma m ρ K b false c j); iexact HR
    isplitr; · iapply (inv_dma m ρ K b true (tgt c j) j); iexact HR
    isplitl [Hs]; · iexact Hs
    isplitl [Hd]; · iexact Hd
    isplitl [HO]; · iexact HO
    isplitl [Ht]; · iexact Ht
    isplitr; · iapply (reached_dma m ρ K b false c j); iexact HR
    isplitl [Ht']; · iexact Ht'
    iapply (reached_dma m ρ K b true (tgt c j) j); iexact HR
  iintro ⟨Hc', HO⟩
  iapply Hk
  unfold sent
  isplitr [HO]
  · isplitl [Ha]; · iexact Ha
    isplitl [Ha']; · iexact Ha'
    isplitl [Hc]; · iexact Hc
    iexact Hc'
  iexists W; iexact HO

/-- A wait on one of the kernel's own semaphores, nothing owed: its payment, and its counter at zero for good. -/
theorem step_wait {α : Type} {Q : α → sProp 𝕄} {k : PUnit → Prog (TpuEff nD τ sig (Elt F) Λ₀ .tc) α}
    (b r : Bool) (c : Dev nD) (j : Fin 3) (P : sProp 𝕄)
    (hP : bigSep ((Rd (F := F) m ρ).duties (dmaC b r c j) 0 \ ∅) (fun d => (Rd (F := F) m ρ).payload (dmaC b r c j) 0 d) = P)
    (s : DmaSem sig) (hs : s = dsem b r j) (M M' : Memref sig .tc .vmem S512x128 .bf16) (hN : M'.view.dmaCredit = N)
    {hsrc : M.view.WordExact} {hdst : M'.view.WordExact} :
    iprop(records m ρ K ∗ cred (tallyAt (dmaC b r c j) () N) ∗ debts c [] ∗ atPos ER (dmaC b r c j) 0 ∅ 0)
      ⊢ iprop(((debts c [] ∗ semVal (dmaC b r c j) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M M' hsrc hdst) k) Q) := by
  subst hs hP
  unfold debts
  iintro ⟨#HR, Hc, ⟨%W, HO⟩, Hat⟩ Hk
  rw [← hN]
  iapply (Rounds.wp_wait_rest_token 𝒱₀ ER (Rd m ρ) (c : Thread nD τ) none (κ := K (c, (kx b r j).succ))
      (wpE_waitDma2_eq 𝒱₀ (c : Thread nD τ) none Set.univ) (Set.mem_univ _) () (O := owed c []) (W := W) (R := 0) (m := 0) (T := ∅)
      (by rw [Nat.zero_add, expect_dma, hN])) $$ [Hc HO Hat]
  · isplitr; · iapply (inv_dma m ρ K b r c j); iexact HR
    isplitl [Hc]; · iexact Hc
    isplitl [HO]; · iexact HO
    isplitr; · rw [show owed c [] = 0 from rfl, MayWait_zero]; iempintro
    iexact Hat
  iintro ⟨HO, Hat, -, Hp⟩
  imod (Rounds.cell_close ER (Rd m ρ) (Set.mem_univ (K (c, (kx b r j).succ))) (fun h => h) (R := 0 + 1) (duties_later m ρ (dmaC b r c j))) $$ [Hat] with Hz
  · isplitr; · iapply (inv_dma m ρ K b r c j); iexact HR
    iexact Hat
  iapply Hk
  isplitl [HO]; · iexists _; iexact HO
  isplitl [Hz] <;> iassumption

/-- Wait for the block in slot `j`. -/
theorem step_recv {α : Type} {Q : α → sProp 𝕄} {k : PUnit → Prog (TpuEff nD τ sig (Elt F) Λ₀ .tc) α}
    (b : Bool) (c : Dev nD) (j : Fin 3) (s : DmaSem sig) (hs : s = dsem b true j) (M M' : Memref sig .tc .vmem S512x128 .bf16) (hN : M'.view.dmaCredit = N)
    {hsrc : M.view.WordExact} {hdst : M'.view.WordExact} :
    iprop(records m ρ K ∗ sent b c j ∗ debts c [])
      ⊢ iprop(((got b c j ∗ debts c [] ∗ own' c (slotM b j) fullShare (blk m ρ b (tgt c j.rev))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M M' hsrc hdst) k) Q) := by
  unfold sent
  iintro ⟨#HR, ⟨Ha, Ha', Hc, Hc'⟩, HO⟩ Hk
  iapply (step_wait m ρ K b true c j _ (rest_recv m ρ c b j) s hs M M' hN) $$ [Ha' Hc HO]
  · isplitr; · iexact HR
    isplitl [Hc]; · iexact Hc
    isplitl [HO] <;> iassumption
  iintro ⟨HO, Hz, Hp⟩
  iapply Hk
  unfold got recvPay
  isplitl [Ha Hc' Hz]
  · isplitl [Ha]; · iexact Ha
    isplitl [Hc'] <;> iassumption
  isplitl [HO] <;> iassumption

/-- Wait for the send with number `j` to be over: the share it was lent is back. -/
theorem step_back {α : Type} {Q : α → sProp 𝕄} {k : PUnit → Prog (TpuEff nD τ sig (Elt F) Λ₀ .tc) α}
    (b : Bool) (c : Dev nD) (j : Fin 3) (s : DmaSem sig) (hs : s = dsem b false j) (M M' : Memref sig .tc .vmem S512x128 .bf16) (hN : M'.view.dmaCredit = N)
    {hsrc : M.view.WordExact} {hdst : M'.view.WordExact} :
    iprop(records m ρ K ∗ got b c j ∗ debts c [])
      ⊢ iprop(((over b c j ∗ debts c [] ∗ own' c (locM b) (lent j.castSucc) (blk m ρ b c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M M' hsrc hdst) k) Q) := by
  unfold got
  iintro ⟨#HR, ⟨Ha, Hc, Hz'⟩, HO⟩ Hk
  iapply (step_wait m ρ K b false c j _ (rest_send m ρ c b j) s hs M M' hN) $$ [Ha Hc HO]
  · isplitr; · iexact HR
    isplitl [Hc]; · iexact Hc
    isplitl [HO] <;> iassumption
  iintro ⟨HO, Hz, Hp⟩
  iapply Hk
  unfold over sendPay
  isplitl [Hz Hz']; · isplitl [Hz] <;> iassumption
  isplitl [HO] <;> iassumption

/-! ## Loads and stores -/

theorem slot_cast : S512x128.ShapeCasts S1x512x128 := by decide

/-- A block as a landing buffer's load reads it, with a leading axis of one. -/
def lift (X : Vec F S512x128 .bf16) : Vec F S1x512x128 .bf16 := shapeCast S1x512x128 X slot_cast

theorem unlift (X : Vec F S512x128 .bf16) (h : S1x512x128.ShapeCasts S512x128) : shapeCast S512x128 (lift X) h = X :=
  shapeCast_shapeCast X slot_cast h

theorem read_slot (b : Bool) (j : Fin 3) (f : (bufM b).view.ty.Contents (Elt F)) :
    ((bufM b).access (slotR j)).read (Elt F) f = lift ((slotM b j).view.read (Elt F) f) := by
  rw [Memref.read_squeeze_slice (bufM b) (slotR j) (fun _ => rfl) squeezes_S1x512x128_S512x128 shapeCasts_S1x512x128_S512x128]
  exact (shapeCast_shapeCast _ _ _).symm

/-- Read slot `j`. -/
theorem step_read {α : Type} {Q : α → sProp 𝕄} (b : Bool) (c : Dev nD) (j : Fin 3) (X : Vec F S512x128 .bf16)
    {hl : (bufM b).view.LoadsAt (slotR j).toLoadRect} {k : Vec F S1x512x128 .bf16 → Prog (TpuEff nD τ sig (Elt F) Λ₀ .tc) α} :
    own' c (slotM b j) fullShare X
      ⊢ iprop((own' c (slotM b j) fullShare X -∗ wp frame (wpE (defs₀ (F := F)) 𝒱₀ (c : Thread nD τ) none) Set.univ (k (lift X)) Q)
          -∗ wp frame (wpE (defs₀ (F := F)) 𝒱₀ (c : Thread nD τ) none) Set.univ (.op (.load (bufM b) (slotR j).toLoadRect hl) k) Q) := by
  unfold own' owns
  iintro ⟨%f, %hf, H⟩ Hk
  have e := read_slot b j f
  rw [hf] at e
  iapply (wp_load_rect 𝒱₀ (c : Thread nD τ) none Set.univ (m := bufM b) (r := slotR j) (S := slotSet b j) (f := f)
    (by rw [slotSet_eq])) $$ H
  iintro H
  rw [e]
  iapply Hk
  iexists f; isplitr; · (ipureintro; exact hf)
  iexact H

/-- A whole block's rectangle. -/
abbrev r0 : Rect S512x128 := Rect.unit (s := S512x128) ![0, 0] S512x128.size inb_S512x128_S512x128_0_0
theorem hz : (![0, 0] : Fin 2 → Nat) = fun _ => 0 := funext fun a => by fin_cases a <;> rfl

/-- Read a whole block. -/
theorem step_load {α : Type} {Q : α → sProp 𝕄} {e : EltTy} (c : Dev nD) (M : Memref sig .tc .vmem S512x128 e) (q : PosShare TreeShare) (X : Vec F S512x128 e)
    {hl : M.view.LoadsAt r0.toLoadRect} {k : Vec F S512x128 e → Prog (TpuEff nD τ sig (Elt F) Λ₀ .tc) α} :
    owns (Ix := Unit) (Name := ℕ) (U := UU) (Lvl := ℕ) (c : Thread nD τ) M q X
      ⊢ iprop((owns (Ix := Unit) (Name := ℕ) (U := UU) (Lvl := ℕ) (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M r0.toLoadRect hl) k) Q) := by
  unfold owns
  iintro ⟨%f, %hf, H⟩ Hk
  have e : M.view.readAt (Elt F) r0.toLoadRect f = X := (View.ld_unit_zero (S := S512x128) hz inb_S512x128_S512x128_0_0 _).trans hf
  iapply (wp_load 𝒱₀ (c : Thread nD τ) none Set.univ (m := M) (r := r0.toLoadRect) (S := M.view.set) (f := f)
    (by rw [← View.setOn_univ]; exact Finset.map_subset_map.mpr (Finset.subset_univ _))) $$ H
  iintro H
  rw [e]
  iapply Hk
  iexists f; isplitr; · (ipureintro; exact hf)
  iexact H

/-- Write a whole block. -/
theorem step_store {α : Type} {Q : α → sProp 𝕄} {k : PUnit → Prog (TpuEff nD τ sig (Elt F) Λ₀ .tc) α}
    {e : EltTy} (c : Dev nD) (M : Memref sig .tc .vmem S512x128 e) (X w : Vec F S512x128 e)
    {hx : (M.access r0).Stores Finset.univ} {hm : (Finset.univ : Finset r0.shape.Idx) = Finset.univ ∨ ∀ a, r0.stride a = 1} :
    owns (Ix := Unit) (Name := ℕ) (U := UU) (Lvl := ℕ) (c : Thread nD τ) M fullShare X
      ⊢ iprop((owns (Ix := Unit) (Name := ℕ) (U := UU) (Lvl := ℕ) (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r0 w Finset.univ hx hm) k) Q) := by
  unfold owns
  iintro ⟨%f, -, H⟩ Hk
  have e : M.view.read (Elt F) ((M.access r0).write (Elt F) f w Finset.univ) = w :=
    (View.ld_unit_zero (S := S512x128) hz inb_S512x128_S512x128_0_0 _).symm.trans (View.read_write_univ (v := M.access r0) f w)
  iapply (wp_store 𝒱₀ (c : Thread nD τ) none Set.univ (m := M) (r := r0) (Mk := Finset.univ) (S := M.view.set) (f := f)
    (View.set_slice_subset M.view r0)) $$ H
  iintro H
  iapply Hk
  iexists _; isplitr; · (ipureintro; exact e)
  iexact H

end Cert.KernelIdeal.Exchange

end
-- ==== Proof.KernelIdeal.Body.lean ====
/-
One device's run of the kernel, from what the launch hands it to the block it leaves.
-/
module

public import proofs.«01_k».proof.Proof.KernelIdeal.Steps
public import proofs.«01_k».proof.Proof.Gen.KernelIdeal.Points

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The block a device computes -/

/-- The attention of `q` over four blocks of keys and values, taken in this order. -/
def attend (q k0 k1 k2 k3 v0 v1 v2 v3 : Vec F S512x128 .bf16) : FVec F S512x128 .f32 :=
  let t0 := k0_pay6 q k0
  let l0 := k0_pay9 q k0
  let a0 := k0_pay10 q k0 v0
  let t1 := k0_pay12 q t0 (lift k1)
  let l1 := k0_pay15 q t0 l0 (lift k1)
  let a1 := k0_pay16 q t0 a0 (lift k1) (lift v1)
  let t2 := k0_pay18 q t1 (lift k2)
  let l2 := k0_pay21 q t1 l1 (lift k2)
  let a2 := k0_pay22 q t1 a1 (lift k2) (lift v2)
  k0_pay23 q t2 l2 a2 (lift k3) (lift v3)

/-- Device `c`'s result: its own block, then those of the devices three, one and two places on. -/
def outAt (c : Dev nD) : Vec F S512x128 .f32 :=
  attend (k0_pay3 (qstg m ρ c)) (blk m ρ false c) (blk m ρ false (tgt c 2)) (blk m ρ false (tgt c 0)) (blk m ρ false (tgt c 1))
    (blk m ρ true c) (blk m ρ true (tgt c 2)) (blk m ρ true (tgt c 0)) (blk m ρ true (tgt c 1))

/-! ## What the launch hands a device -/

/-- The device whose semaphore `k` device `c` pays: itself for a departure, the block's receiver for an arrival. -/
def sh (k : Fin 12) : Dev nD ≃ Dev nD := if isRecv (own k) then turn (slotOf (own k)) else Equiv.refl _

/-- The duties device `c` pays. -/
def payToks (c : Dev nD) : sProp 𝕄 :=
  iprop((bigSep Finset.univ fun i : Fin 3 => dutyTok ER (barC (tgt c i.rev)) 0 i)
    ∗ bigSep Finset.univ fun k : Fin 12 => dutyTok ER ((sh k c : Thread nD τ), osem k) 0 0)

def linear (c : Dev nD) : sProp 𝕄 :=
  iprop((bigSep Finset.univ fun k : Fin 13 => atPos ER (kcell (c, k)) 0 ∅ 0) ∗ payToks c)

/-- What all devices owe one semaphore at launch. -/
def dueAt (sm : SemLoc sig) : ℕ := (dues.map fun x => if sm = dueSem x then dueAmt x else 0).sum
theorem due_bar : dueAt (.reg barS) = 3 := rfl
theorem due_recv (b : Bool) (j : Fin 3) : dueAt (.dma (dsem b true j)) = N := by
  cases b <;> fin_cases j <;> simp [dueAt, dues, sends, dueSem, dueAmt]

def creds (c : Dev nD) : sProp 𝕄 := bigSep Finset.univ fun k : Fin 13 => cred (tallyAt (kcell (c, k)) () (dueAt (csem k)))

def toMeet (c : Dev nD) : sProp 𝕄 :=
  iprop(atPos ER (barC c) 0 ∅ 0 ∗ cred (tallyAt (barC c) () 3)
    ∗ dutyTok ER (barC (tgt c 0)) 0 2 ∗ dutyTok ER (barC (tgt c 1)) 0 1 ∗ dutyTok ER (barC (tgt c 2)) 0 0)

theorem fin12_chain (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem fin13_chain (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- A lane from the launch's pieces. -/
theorem lane_intro (b : Bool) (c : Dev nD) (j : Fin 3) :
    iprop(atPos ER (kcell (c, (kx b false j).succ)) 0 ∅ 0 ∗ atPos ER (kcell (c, (kx b true j).succ)) 0 ∅ 0
        ∗ cred (tallyAt (kcell (c, (kx b true j).succ)) () (dueAt (csem (kx b true j).succ)))
        ∗ dutyTok ER ((sh (kx b false j) c : Thread nD τ), osem (kx b false j)) 0 0
        ∗ dutyTok ER ((sh (kx b true j) c : Thread nD τ), osem (kx b true j)) 0 0)
      ⊢ (lane b c j : sProp 𝕄) := by
  have h1 : sh (kx b false j) c = c := by unfold sh; rw [isRecv_dsem]; rfl
  have h2 : sh (kx b true j) c = tgt c j := by unfold sh; rw [isRecv_dsem, slotOf_dsem]; rfl
  rw [h1, h2, show dueAt (csem (kx b true j).succ) = N from due_recv b j]
  exact BI.Entails.refl _

theorem open_launch (c : Dev nD) : iprop(linear c ∗ creds c)
    ⊢ (iprop(toMeet c ∗ (lane false c 0 ∗ lane false c 1 ∗ lane false c 2) ∗ lane true c 0 ∗ lane true c 1 ∗ lane true c 2) : sProp 𝕄) := by
  unfold linear creds payToks
  rw [fin13_chain, fin13_chain, fin12_chain, fin3_chain]
  iintro ⟨⟨⟨A0, A1, A2, A3, A4, A5, A6, A7, A8, A9, A10, A11, A12⟩, ⟨B0, B1, B2⟩, D0, D1, D2, D3, D4, D5, D6, D7, D8, D9, D10, D11⟩,
    C0, C1, C2, C3, C4, C5, C6, C7, C8, C9, C10, C11, C12⟩
  isplitl [A0 B0 B1 B2 C0]
  · unfold toMeet
    isplitl [A0]; · iexact A0
    isplitl [C0]; · iexact C0
    isplitl [B2]; · iexact B2
    isplitl [B1]; · iexact B1
    iexact B0
  isplitl [A1 A2 A3 A4 A5 A6 C4 C5 C6 D0 D1 D2 D3 D4 D5]
  · isplitl [A1 A4 C4 D0 D3]
    · iapply (lane_intro false c 0)
      isplitl [A1]; · iexact A1
      isplitl [A4]; · iexact A4
      isplitl [C4]; · iexact C4
      isplitl [D0]; · iexact D0
      iexact D3
    isplitl [A2 A5 C5 D1 D4]
    · iapply (lane_intro false c 1)
      isplitl [A2]; · iexact A2
      isplitl [A5]; · iexact A5
      isplitl [C5]; · iexact C5
      isplitl [D1]; · iexact D1
      iexact D4
    iapply (lane_intro false c 2)
    isplitl [A3]; · iexact A3
    isplitl [A6]; · iexact A6
    isplitl [C6]; · iexact C6
    isplitl [D2]; · iexact D2
    iexact D5
  isplitl [A7 A10 C10 D6 D9]
  · iapply (lane_intro true c 0)
    isplitl [A7]; · iexact A7
    isplitl [A10]; · iexact A10
    isplitl [C10]; · iexact C10
    isplitl [D6]; · iexact D6
    iexact D9
  isplitl [A8 A11 C11 D7 D10]
  · iapply (lane_intro true c 1)
    isplitl [A8]; · iexact A8
    isplitl [A11]; · iexact A11
    isplitl [C11]; · iexact C11
    isplitl [D7]; · iexact D7
    iexact D10
  iapply (lane_intro true c 2)
  isplitl [A9]; · iexact A9
  isplitl [A12]; · iexact A12
  isplitl [C12]; · iexact C12
  isplitl [D8]; · iexact D8
  iexact D11

/-- A device's block of its own, at some contents. -/
def locSt (b : Bool) (c : Dev nD) : sProp 𝕄 := iprop(∃ X : Vec F S512x128 .bf16, own' c (locM b) fullShare X)

def scratch (c : Dev nD) : sProp 𝕄 := iprop(locSt false c ∗ locSt true c ∗ bufSt false c ∗ bufSt true c)

def start (c : Dev nD) : sProp 𝕄 := iprop((∃ K, records m ρ K ∗ linear c) ∗ creds c ∗ levAts L lv)
def Φ₀ (c : Dev nD) : sProp 𝕄 := iprop(start m ρ c ∗ scratch c)
def Φ₁ (c : Dev nD) : sProp 𝕄 :=
  iprop(scratch c ∗ semVal (barC c) 0 ∗ (over false c 0 ∗ over false c 1 ∗ over false c 2) ∗ over true c 0 ∗ over true c 1 ∗ over true c 2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => owed c dues
    | ⟨_ + 1, _⟩ => owed c []

abbrev stgs (c : Dev nD) (M : Memref sig .tc .vmem S512x128 .f32) (X : Vec F S512x128 .f32) : sProp 𝕄 :=
  owns (Ix := Unit) (Name := ℕ) (U := UU) (Lvl := ℕ) (c : Thread nD τ) M fullShare X

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

set_option maxHeartbeats 2000000 in
set_option maxRecDepth 8000 in
theorem sound_body (K : Dev nD × Fin 13 → ℕ) (c : Dev nD) (X : Vec F S512x128 .f32) (Kt : PUnit → sProp 𝕄) :
    iprop((records m ρ K ∗ levAts L lv ∗ linear c ∗ creds c ∗ scratch c ∗ debts c dues)
        ∗ (stgs c (Memref.whole cc0_stg0_0) (qstg m ρ c) ∗ stgs c (Memref.whole cc0_stg1_0) (kstg m ρ c)
          ∗ stgs c (Memref.whole cc0_stg2_0) (vstg m ρ c) ∗ stgs c (Memref.whole cc0_stg3_0) X)
        ∗ ((Φ₁ c ∗ debts c [] ∗ stgs c (Memref.whole cc0_stg0_0) (qstg m ρ c) ∗ stgs c (Memref.whole cc0_stg1_0) (kstg m ρ c)
          ∗ stgs c (Memref.whole cc0_stg2_0) (vstg m ρ c) ∗ stgs c (Memref.whole cc0_stg3_0) (outAt m ρ c)) -∗ Kt ⟨⟩))
      ⊢ wp frame (wpE (defs₀ (F := F)) 𝒱₀ (c : Thread nD τ) none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold scratch locSt
  iintro ⟨⟨#HR, #Hlev, Hlin, Hcr, ⟨⟨%X0, Hk⟩, ⟨%X1, Hv⟩, Hbk, Hbv⟩, HO⟩, ⟨Hsq, Hsk, Hsv, Hout⟩, Hend⟩
  ihave Hop := (open_launch (F := F) c) $$ [Hlin Hcr]
  · isplitl [Hlin] <;> iassumption
  unfold toMeet
  icases Hop with ⟨⟨Hat, Hcb, T0, T1, T2⟩, ⟨LF0, LF1, LF2⟩, LT0, LT1, LT2⟩
  ihave Hbk := (buf_split false c) $$ Hbk; icases Hbk with ⟨SF0, SF1, SF2⟩
  ihave Hbv := (buf_split true c) $$ Hbv; icases Hbv with ⟨ST0, ST1, ST2⟩
  -- the device's own blocks
  iapply (step_load c (Memref.whole cc0_stg1_0) fullShare _) $$ Hsk; iintro Hsk
  iapply (step_load c (locM false) fullShare X0) $$ Hk; iintro Hk
  iapply (step_store c (locM false) X0 (blk m ρ false c)) $$ Hk; iintro Hk
  iapply (step_load c (Memref.whole cc0_stg2_0) fullShare _) $$ Hsv; iintro Hsv
  iapply (step_load c (locM true) fullShare X1) $$ Hv; iintro Hv
  iapply (step_store c (locM true) X1 (blk m ρ true c)) $$ Hv; iintro Hv
  iapply (step_load c (Memref.whole cc0_stg0_0) fullShare _) $$ Hsq; iintro Hsq
  -- the announcements
  iapply (step_signal m ρ K c _ 0 (dev1_eq c) _ (by decide) ((none, 1) :: (none, 2) :: sends)) $$ [HO T0 SF2 ST2]
  · isplitr; · iexact HR
    isplitl [HO]; · iexact HO
    isplitl [T0]; · iexact T0
    isplitl [SF2]; · iexact SF2
    iexact ST2
  iintro HO
  iapply (step_signal m ρ K c _ 1 (dev2_eq c) _ (by decide) ((none, 2) :: sends)) $$ [HO T1 SF1 ST1]
  · isplitr; · iexact HR
    isplitl [HO]; · iexact HO
    isplitl [T1]; · iexact T1
    isplitl [SF1]; · iexact SF1
    iexact ST1
  iintro HO
  iapply (step_signal m ρ K c _ 2 (dev3_eq c) _ (by decide) (sends)) $$ [HO T2 SF0 ST0]
  · isplitr; · iexact HR
    isplitl [HO]; · iexact HO
    isplitl [T2]; · iexact T2
    isplitl [SF0]; · iexact SF0
    iexact ST0
  iintro HO
  iapply (step_meet m ρ K c _ (by decide)) $$ [Hcb HO Hat]
  · isplitr; · iexact HR
    isplitr; · iexact Hlev
    isplitl [Hcb]; · iexact Hcb
    isplitl [HO] <;> iassumption
  unfold barPay
  iintro ⟨HO, Hzb, ⟨SF0, ST0⟩, ⟨SF1, ST1⟩, SF2, ST2⟩
  -- the sends
  ihave Hk := (Entails.of_eq (loc_shares false c _)) $$ Hk; icases Hk with ⟨KF0, KF1, KF2, KF3⟩
  ihave Hv := (Entails.of_eq (loc_shares true c _)) $$ Hv; icases Hv with ⟨KT0, KT1, KT2, KT3⟩
  iapply (step_send m ρ K false c _ 0 (dev4_eq c) _ _ rfl rfl _ _ rfl rfl [(some false, 2), (some false, 1), (some true, 0), (some true, 2), (some true, 1)]) $$ [HO LF0 KF0 SF0]
  · isplitr; · iexact HR
    isplitl [LF0]; · iexact LF0
    isplitl [KF0]; · iexact KF0
    isplitl [SF0]; · iexact SF0
    iexact HO
  iintro ⟨LF0, HO⟩
  iapply (step_send m ρ K false c _ 2 (dev5_eq c) _ _ rfl rfl _ _ rfl rfl [(some false, 1), (some true, 0), (some true, 2), (some true, 1)]) $$ [HO LF2 KF2 SF2]
  · isplitr; · iexact HR
    isplitl [LF2]; · iexact LF2
    isplitl [KF2]; · iexact KF2
    isplitl [SF2]; · iexact SF2
    iexact HO
  iintro ⟨LF2, HO⟩
  iapply (step_send m ρ K false c _ 1 (dev6_eq c) _ _ rfl rfl _ _ rfl rfl [(some true, 0), (some true, 2), (some true, 1)]) $$ [HO LF1 KF1 SF1]
  · isplitr; · iexact HR
    isplitl [LF1]; · iexact LF1
    isplitl [KF1]; · iexact KF1
    isplitl [SF1]; · iexact SF1
    iexact HO
  iintro ⟨LF1, HO⟩
  iapply (step_send m ρ K true c _ 0 (dev7_eq c) _ _ rfl rfl _ _ rfl rfl [(some true, 2), (some true, 1)]) $$ [HO LT0 KT0 ST0]
  · isplitr; · iexact HR
    isplitl [LT0]; · iexact LT0
    isplitl [KT0]; · iexact KT0
    isplitl [ST0]; · iexact ST0
    iexact HO
  iintro ⟨LT0, HO⟩
  iapply (step_send m ρ K true c _ 2 (dev8_eq c) _ _ rfl rfl _ _ rfl rfl [(some true, 1)]) $$ [HO LT2 KT2 ST2]
  · isplitr; · iexact HR
    isplitl [LT2]; · iexact LT2
    isplitl [KT2]; · iexact KT2
    isplitl [ST2]; · iexact ST2
    iexact HO
  iintro ⟨LT2, HO⟩
  iapply (step_send m ρ K true c _ 1 (dev9_eq c) _ _ rfl rfl _ _ rfl rfl []) $$ [HO LT1 KT1 ST1]
  · isplitr; · iexact HR
    isplitl [LT1]; · iexact LT1
    isplitl [KT1]; · iexact KT1
    isplitl [ST1]; · iexact ST1
    iexact HO
  iintro ⟨LT1, HO⟩
  iapply (step_load c (locM false) (lent 3) _) $$ KF3; iintro KF3
  iapply (step_load c (locM true) (lent 3) _) $$ KT3; iintro KT3
  -- the arrivals
  iapply (step_recv m ρ K false c 0 _ rfl _ _ (slot_credit false 0)) $$ [HO LF0]
  · isplitr; · iexact HR
    isplitl [LF0] <;> iassumption
  iintro ⟨LF0, HO, SF0⟩
  iapply (step_read false c 0 _) $$ SF0; iintro SF0
  iapply (step_recv m ρ K true c 0 _ rfl _ _ (slot_credit true 0)) $$ [HO LT0]
  · isplitr; · iexact HR
    isplitl [LT0] <;> iassumption
  iintro ⟨LT0, HO, ST0⟩
  iapply (step_read true c 0 _) $$ ST0; iintro ST0
  iapply (step_recv m ρ K false c 2 _ rfl _ _ (slot_credit false 2)) $$ [HO LF2]
  · isplitr; · iexact HR
    isplitl [LF2] <;> iassumption
  iintro ⟨LF2, HO, SF2⟩
  iapply (step_read false c 2 _) $$ SF2; iintro SF2
  iapply (step_recv m ρ K true c 2 _ rfl _ _ (slot_credit true 2)) $$ [HO LT2]
  · isplitr; · iexact HR
    isplitl [LT2] <;> iassumption
  iintro ⟨LT2, HO, ST2⟩
  iapply (step_read true c 2 _) $$ ST2; iintro ST2
  iapply (step_recv m ρ K false c 1 _ rfl _ _ (slot_credit false 1)) $$ [HO LF1]
  · isplitr; · iexact HR
    isplitl [LF1] <;> iassumption
  iintro ⟨LF1, HO, SF1⟩
  iapply (step_read false c 1 _) $$ SF1; iintro SF1
  iapply (step_recv m ρ K true c 1 _ rfl _ _ (slot_credit true 1)) $$ [HO LT1]
  · isplitr; · iexact HR
    isplitl [LT1] <;> iassumption
  iintro ⟨LT1, HO, ST1⟩
  iapply (step_read true c 1 _) $$ ST1; iintro ST1
  -- the result
  iapply (step_load c (Memref.whole cc0_stg3_0) fullShare _) $$ Hout; iintro Hout
  iapply (step_store c (Memref.whole cc0_stg3_0) _ (outAt m ρ c)) $$ Hout; iintro Hout
  -- the departures
  iapply (step_back m ρ K false c 0 _ rfl _ _ (loc_credit false)) $$ [HO LF0]
  · isplitr; · iexact HR
    isplitl [LF0] <;> iassumption
  iintro ⟨LF0, HO, KF0⟩
  iapply (step_back m ρ K true c 0 _ rfl _ _ (loc_credit true)) $$ [HO LT0]
  · isplitr; · iexact HR
    isplitl [LT0] <;> iassumption
  iintro ⟨LT0, HO, KT0⟩
  iapply (step_back m ρ K false c 2 _ rfl _ _ (loc_credit false)) $$ [HO LF2]
  · isplitr; · iexact HR
    isplitl [LF2] <;> iassumption
  iintro ⟨LF2, HO, KF2⟩
  iapply (step_back m ρ K true c 2 _ rfl _ _ (loc_credit true)) $$ [HO LT2]
  · isplitr; · iexact HR
    isplitl [LT2] <;> iassumption
  iintro ⟨LT2, HO, KT2⟩
  iapply (step_back m ρ K false c 1 _ rfl _ _ (loc_credit false)) $$ [HO LF1]
  · isplitr; · iexact HR
    isplitl [LF1] <;> iassumption
  iintro ⟨LF1, HO, KF1⟩
  iapply (step_back m ρ K true c 1 _ rfl _ _ (loc_credit true)) $$ [HO LT1]
  · isplitr; · iexact HR
    isplitl [LT1] <;> iassumption
  iintro ⟨LT1, HO, KT1⟩
  rw [wp_ret]; imodintro
  iapply Hend
  unfold Φ₁ scratch locSt
  isplitr [HO Hsq Hsk Hsv Hout]
  · isplitr [Hzb LF0 LF1 LF2 LT0 LT1 LT2]
    · isplitl [KF0 KF1 KF2 KF3]
      · iexists (blk m ρ false c); iapply (Entails.of_eq (loc_shares false c _).symm)
        isplitl [KF0]; · iexact KF0
        isplitl [KF1]; · iexact KF1
        isplitl [KF2]; · iexact KF2
        iexact KF3
      isplitl [KT0 KT1 KT2 KT3]
      · iexists (blk m ρ true c); iapply (Entails.of_eq (loc_shares true c _).symm)
        isplitl [KT0]; · iexact KT0
        isplitl [KT1]; · iexact KT1
        isplitl [KT2]; · iexact KT2
        iexact KT3
      isplitl [SF0 SF1 SF2]
      · iapply (buf_join false c); unfold freeSlot
        isplitl [SF0]; · iexists _; iexact SF0
        isplitl [SF1]; · iexists _; iexact SF1
        iexists _; iexact SF2
      iapply (buf_join true c); unfold freeSlot
      isplitl [ST0]; · iexists _; iexact ST0
      isplitl [ST1]; · iexists _; iexact ST1
      iexists _; iexact ST2
    isplitl [Hzb]; · iexact Hzb
    isplitl [LF0 LF1 LF2]
    · isplitl [LF0]; · iexact LF0
      isplitl [LF1] <;> iassumption
    isplitl [LT0]; · iexact LT0
    isplitl [LT1] <;> iassumption
  isplitl [HO]; · iexact HO
  isplitl [Hsq]; · iexact Hsq
  isplitl [Hsk]; · iexact Hsk
  isplitl [Hsv] <;> iassumption

/-- The staged inputs are the arrays' blocks. -/
theorem staged_q (c : Dev nD) (d) : (dats m ρ 0 c).before (0 : Fin 4) t0_0 d = qstg m ρ c := by
  unfold Dat.before; rw [if_pos (fetch0_0 t0_0)]; rfl
theorem staged_k (c : Dev nD) (d) : (dats m ρ 0 c).before (1 : Fin 4) t0_0 d = kstg m ρ c := by
  unfold Dat.before; rw [if_pos (fetch0_1 t0_0)]; rfl
theorem staged_v (c : Dev nD) (d) : (dats m ρ 0 c).before (2 : Fin 4) t0_0 d = vstg m ρ c := by
  unfold Dat.before; rw [if_pos (fetch0_2 t0_0)]; rfl

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  show iprop(Φ₀ m ρ c ∗ (dats m ρ 0 c).owesAt () t0_0.castSucc
      ∗ (∃ d, stgs c (Memref.whole cc0_stg0_0) ((dats m ρ 0 c).before (0 : Fin 4) t0_0 d))
      ∗ (∃ d, stgs c (Memref.whole cc0_stg1_0) ((dats m ρ 0 c).before (1 : Fin 4) t0_0 d))
      ∗ (∃ d, stgs c (Memref.whole cc0_stg2_0) ((dats m ρ 0 c).before (2 : Fin 4) t0_0 d))
      ∗ (∃ d, stgs c (Memref.whole cc0_stg3_0) ((dats m ρ 0 c).before (3 : Fin 4) t0_0 d)))
    ⊢ wp frame (wpE (defs₀ (F := F)) 𝒱₀ (c : Thread nD τ) none) Set.univ (theBody (F := F)) (fun _ =>
      iprop(Φ₁ c ∗ (dats m ρ 0 c).owesAt () t0_0.succ ∗ stgs c (Memref.whole cc0_stg0_0) (qstg m ρ c) ∗ stgs c (Memref.whole cc0_stg1_0) (kstg m ρ c)
          ∗ stgs c (Memref.whole cc0_stg2_0) (vstg m ρ c) ∗ stgs c (Memref.whole cc0_stg3_0) (outAt m ρ c)))
  unfold Φ₀ start Dat.owesAt Pipeline.owesWithin
  iintro ⟨⟨⟨⟨%K, HR, Hlin⟩, Hcr, Hlev⟩, Hscr⟩, ⟨%W, -, HO⟩, ⟨%d0, Hq⟩, ⟨%d1, Hk⟩, ⟨%d2, Hv⟩, ⟨%d3, Ho⟩⟩
  rw [staged_q, staged_k, staged_v]
  iapply (sound_body m ρ K c ((dats m ρ 0 c).before (3 : Fin 4) t0_0 d3))
  isplitl [HR Hlin Hcr Hlev Hscr HO]
  · isplitl [HR]; · iexact HR
    isplitl [Hlev]; · iexact Hlev
    isplitl [Hlin]; · iexact Hlin
    isplitl [Hcr]; · iexact Hcr
    isplitl [Hscr]; · iexact Hscr
    unfold debts; iexists W; iexact HO
  isplitl [Hq Hk Hv Ho]
  · isplitl [Hq]; · iexact Hq
    isplitl [Hk]; · iexact Hk
    isplitl [Hv] <;> iassumption
  iintro ⟨HΦ, HO, Hq, Hk, Hv, Ho⟩
  isplitl [HΦ]; · iexact HΦ
  isplitl [HO]
  · unfold debts; icases HO with ⟨%W', HO⟩
    iexists W'
    isplitr; · ipureintro; exact fun _ _ => Or.inl trivial
    iexact HO
  isplitl [Hq]; · iexact Hq
  isplitl [Hk]; · iexact Hk
  isplitl [Hv] <;> iassumption

end Cert.KernelIdeal.Exchange

end
-- ==== Proof.KernelIdeal.Run.lean ====
/-
The launch: semaphores and tokens dealt to the four devices, each device's debts and credits, and the run itself.
-/
module

public import proofs.«01_k».proof.Proof.KernelIdeal.Body
public import proofs.«01_k».proof.Proof.Gen.KernelIdeal.Launch
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The exchange's cells and tokens -/

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The duties there are: a barrier cell's three, and one for each transfer's cell. -/
def tokOf (x : Dev nD × (Fin 3 ⊕ Fin 12)) : GSem nD τ sig × ℕ × Fin 3 :=
  match x.2 with
  | .inl i => (barC x.1, 0, i)
  | .inr k => (kcell (x.1, k.succ), 0, 0)
theorem tokOf_injective : Function.Injective tokOf := by
  rintro ⟨c, i | k⟩ ⟨c', i' | k'⟩ h
  · have h1 : c = c' := congrArg (fun x : GSem nD τ sig × ℕ × Fin 3 => x.1.1.1) h
    have h2 : i = i' := congrArg (fun x : GSem nD τ sig × ℕ × Fin 3 => x.2.2) h
    rw [h1, h2]
  · exact absurd (csem_injective (a₁ := 0) (a₂ := k'.succ) (congrArg (fun x : GSem nD τ sig × ℕ × Fin 3 => x.1.2) h)) (Fin.succ_ne_zero k').symm
  · exact absurd (csem_injective (a₁ := k.succ) (a₂ := 0) (congrArg (fun x : GSem nD τ sig × ℕ × Fin 3 => x.1.2) h)) (Fin.succ_ne_zero k)
  · have h1 : c = c' := congrArg (fun x : GSem nD τ sig × ℕ × Fin 3 => x.1.1.1) h
    have h2 : k = k' := Fin.succ_injective _ (csem_injective (congrArg (fun x : GSem nD τ sig × ℕ × Fin 3 => x.1.2) h))
    rw [h1, h2]
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The tokens of a device's own cells. -/
def toks (c : Dev nD) : sProp 𝕄 :=
  iprop((bigSep Finset.univ fun i : Fin 3 => dutyTok ER (barC c) 0 i)
    ∗ bigSep Finset.univ fun k : Fin 12 => dutyTok ER ((c : Thread nD τ), osem k) 0 0)

/-- What the launch deals a device, -/
def G (c : Dev nD) : sProp 𝕄 :=
  iprop((bigSep Finset.univ fun k : Fin 13 => roundState ER (Rd m ρ) (kcell (c, k)) 0)
    ∗ (bigSep Finset.univ fun k : Fin 13 => iprop(atPos ER (kcell (c, k)) 0 ∅ 0 ∗ reached ER (kcell (c, k)) 0)) ∗ toks c)
/-- and what the devices together make of it. -/
def G' (c : Dev nD) : sProp 𝕄 := iprop(∃ K, records m ρ K ∗ linear c)

theorem fund : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 13 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum]; rfl
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄)
    = bigSep Finset.univ fun k : Fin 12 => semVal ((c : Thread nD τ), osem k) 0 := by
  rw [Pipeline.ownSems0_eq_of_list c osem [0, 1, 2, 3, 4, 5, 6, 7, 8, 9, 10, 11] (by decide) (by decide), fin12_chain]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem fin13_split (Φ : Fin 13 → sProp 𝕄) : bigSep Finset.univ Φ = iprop(Φ 0 ∗ bigSep Finset.univ fun k : Fin 12 => Φ k.succ) := by
  rw [fin13_chain, fin12_chain]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, fin13_split]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Dealing item `k` of every device to the device `σ k` of it leaves the whole as it was. -/
theorem deal {I : Type} [Fintype I] [DecidableEq I] (σ : I → Dev nD ≃ Dev nD) (Φ : I → Dev nD → sProp 𝕄) :
    (bigSep Finset.univ fun c : Dev nD => bigSep Finset.univ fun k : I => Φ k c)
      = bigSep Finset.univ fun c : Dev nD => bigSep Finset.univ fun k : I => Φ k (σ k c) := by
  rw [bigSep_univ_comm, bigSep_univ_comm (fun (c : Dev nD) (k : I) => Φ k (σ k c))]
  exact bigSep_congr fun k _ => bigSep_univ_equiv (σ k) (Φ k)

/-- Each token goes to the device that pays its duty. -/
theorem toks_around : (bigSep Finset.univ fun c : Dev nD => (toks c : sProp 𝕄)) ⊢ bigSep Finset.univ fun c : Dev nD => payToks c := by
  unfold toks payToks
  rw [bigSep_sep', bigSep_sep',
    deal (fun i : Fin 3 => turn i.rev) (fun i c => (dutyTok ER (barC c) 0 i : sProp 𝕄)),
    deal sh (fun k c => (dutyTok ER ((c : Thread nD τ), osem k) 0 0 : sProp 𝕄))]
  exact BI.Entails.refl _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 13 => iprop(∃ κ : ℕ, cellInv ER (Rd m ρ) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd m ρ) κ (kcell ck) : sProp 𝕄))) $$ HI
  icases HK with ⟨%K, #HI⟩
  ihave Htk := (toks_around (F := F)) $$ Htok
  iapply (bigSep_with (R := records m ρ K) (Φ := fun c => linear c) fun c _ => show _ ⊢ G' m ρ c from by
    unfold G'; iintro H; iexists K; iexact H)
  isplitr
  · unfold records; isplitl; · iexact HI
    iexact HR
  · unfold linear
    iapply (Entails.of_eq (bigSep_sep' Finset.univ (fun c : Dev nD => bigSep Finset.univ fun k : Fin 13 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credits -/

abbrev O₀ (c : Dev nD) : CellTallies nD τ sig Unit := owed c dues

/-- An entry's target is `c` for exactly one device. -/
theorem sum_due (c : Dev nD) (sm : SemLoc sig) (x : Due) :
    (∑ d : Dev nD, if ((c : Thread nD τ), sm) = dueCell d x then dueAmt x else 0) = if sm = dueSem x then dueAmt x else 0 := by
  by_cases h : sm = dueSem x
  · subst h
    have e : ∀ d : Dev nD, ((c : Thread nD τ), dueSem x) = dueCell d x ↔ d = tgt c x.2.rev := fun d =>
      ⟨fun h => by
        have h' : c = tgt d x.2 := congrArg (fun g : GSem nD τ sig => g.1.1) h
        rw [h', tgt_rev], fun h => by
        subst h; unfold dueCell; rw [rev_tgt]⟩
    rw [Finset.sum_congr rfl fun d _ => if_congr (e d) rfl rfl, Finset.sum_ite_eq' Finset.univ (tgt c x.2.rev) fun _ => dueAmt x,
      if_pos (Finset.mem_univ _), if_pos rfl]
  · rw [if_neg h]
    exact Finset.sum_eq_zero fun d _ => if_neg fun h' => h (congrArg Prod.snd h')

/-- What the devices together owe one semaphore of device `c`. -/
theorem sum_owed (c : Dev nD) (sm : SemLoc sig) (l : List Due) :
    ∑ d : Dev nD, owed d l ((c : Thread nD τ), sm) () = (l.map fun x => if sm = dueSem x then dueAmt x else 0).sum := by
  rw [Finset.sum_congr rfl fun d _ => owed_apply d _ l]
  induction l with
  | nil => exact Finset.sum_eq_zero fun d _ => rfl
  | cons x l ih => simp only [List.map_cons, List.sum_cons, Finset.sum_add_distrib, ih, sum_due]

theorem launch_at (c : Dev nD) (sm : SemLoc sig) :
    tallyOn ((c : Thread nD τ), sm) (launchCredit (Pipeline.owing O₀) 0 ((c : Thread nD τ), sm)) = (tallyAt ((c : Thread nD τ), sm) () (dueAt sm) : CellTallies nD τ sig Unit) := by
  unfold tallyAt; refine congrArg _ (Finsupp.ext fun u => ?_); cases u
  rw [Pipeline.launchCredit_owing, Finsupp.single_eq_same, sum_owed]; rfl

theorem creds_intro (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map]
  exact Entails.of_eq (bigSep_congr fun k _ => congrArg cred (launch_at c (csem k)))

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

/-- The scratch buffers, as the launch gives and takes them. -/
theorem scratch_eq (c : Dev nD) : (Pipeline.scopedRest cfg0.spec c : sProp 𝕄) ⊣⊢ scratch c := by
  show (Pipeline.scopedRest spec0 c : sProp 𝕄) ⊣⊢ scratch c
  rw [scopedRest0_eq]
  unfold scratch locSt own' bufSt
  simp only [owns_whole]
  constructor
  · iintro ⟨⟨%f0, H0⟩, ⟨%f1, H1⟩, H2, H3⟩
    isplitl [H0]; · iexists f0; iexact H0
    isplitl [H1]; · iexists f1; iexact H1
    isplitl [H2] <;> iassumption
  · iintro ⟨⟨%f0, H0⟩, ⟨%f1, H1⟩, H2, H3⟩
    isplitl [H0]; · iexists f0; iexact H0
    isplitl [H1]; · iexists f1; iexact H1
    isplitl [H2] <;> iassumption

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_eq (F := F) c).1; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, fin12_chain, unscopedSems0_eq]
  unfold Φ₁ over
  iintro ⟨Hr, HzB, ⟨⟨S0, R0⟩, ⟨S1, R1⟩, S2, R2⟩, ⟨S3, R3⟩, ⟨S4, R4⟩, S5, R5⟩
  isplitl [HzB]; · iexact HzB
  isplitr [Hr]
  · isplitl [S0]; · iexact S0
    isplitl [S1]; · iexact S1
    isplitl [S2]; · iexact S2
    isplitl [R0]; · iexact R0
    isplitl [R1]; · iexact R1
    isplitl [R2]; · iexact R2
    isplitl [S3]; · iexact S3
    isplitl [S4]; · iexact S4
    isplitl [S5]; · iexact S5
    isplitl [R3]; · iexact R3
    isplitl [R4]; · iexact R4
    iexact R5
  iapply (scratch_eq (F := F) c).2; iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) dues
    · exact mayWait_stage c _ (by fin_cases w <;> fin_cases s <;> decide) []

/-! ## The run -/

/-- Every window's array, after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every weakly fair execution ends, with each window's array at what the
    proof data compute and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Its arrays -/

theorem final_q (c : Dev nD) : finalA m ρ c (0 : Fin 4) = m ((c : Thread nD τ).loc main_arg0) := (dats m ρ 0 c).arrAt_in (0 : Fin 4) rfl _
theorem final_k (c : Dev nD) : finalA m ρ c (1 : Fin 4) = m ((c : Thread nD τ).loc main_arg1) := (dats m ρ 0 c).arrAt_in (1 : Fin 4) rfl _
theorem final_v (c : Dev nD) : finalA m ρ c (2 : Fin 4) = m ((c : Thread nD τ).loc main_arg2) := (dats m ρ 0 c).arrAt_in (2 : Fin 4) rfl _

/-- Each window's one block is its array. -/
theorem read_q (f : Vec F S512x128 .f32) : (win0_0.blk (0 : Fin 1)).view.read (Elt F) f = f :=
  Memref.read_access_unit_zero (Elt F) main_arg0 (funext fun a => by fin_cases a <;> decide) (fun a => by fin_cases a <;> decide) f
theorem read_k (f : Vec F S512x128 .f32) : (win0_1.blk (0 : Fin 1)).view.read (Elt F) f = f :=
  Memref.read_access_unit_zero (Elt F) main_arg1 (funext fun a => by fin_cases a <;> decide) (fun a => by fin_cases a <;> decide) f
theorem read_v (f : Vec F S512x128 .f32) : (win0_2.blk (0 : Fin 1)).view.read (Elt F) f = f :=
  Memref.read_access_unit_zero (Elt F) main_arg2 (funext fun a => by fin_cases a <;> decide) (fun a => by fin_cases a <;> decide) f
theorem read_o (f : Vec F S512x128 .f32) : (win0_3.blk (0 : Fin 1)).view.read (Elt F) f = f :=
  Memref.read_access_unit_zero (Elt F) main_v1 (funext fun a => by fin_cases a <;> decide) (fun a => by fin_cases a <;> decide) f

/-- The result array ends at what the body stores. -/
theorem final_o (c : Dev nD) : finalA m ρ c (3 : Fin 4) = outAt m ρ c := by
  refine (read_o (F := F) _).symm.trans ?_
  unfold finalA
  rw [show cfg0.N = ((0 : Fin 1) : Fin cfg0.N).val + 1 from rfl, (dats m ρ 0 c).arrAt_succ (3 : Fin 4) (0 : Fin 1),
    show (cfg0.win (3 : Fin 4)).flush (0 : Fin 1) = true from by decide, if_pos rfl]
  exact View.read_write_univ _ _

/-- The run by its arrays: the result, the three arguments as they were, every counter at zero. -/
theorem run_arrays : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c (3 : Fin 4)).trans (final_o m ρ c), (h.1 c (0 : Fin 4)).trans (final_q m ρ c),
    (h.1 c (1 : Fin 4)).trans (final_k m ρ c), (h.1 c (2 : Fin 4)).trans (final_v m ρ c)⟩, h.2⟩) (run_main m ρ)

end Cert.KernelIdeal.Exchange

end
-- ==== Proof.Softmax.lean ====
/-
Softmax-weighted sums over the extended reals. The scores are real; the weighted values may be infinite. The weights do not
depend on the real number that is subtracted from every score, so a sum over blocks, rescaled whenever that number changes,
and a sum over the whole row give one value.
-/
module

public import Idealize.ShloMosaic.PureOps.Ideal
public import Mathlib.Algebra.BigOperators.Fin

@[expose] public section

noncomputable section

namespace Cert.Softmax

open Idealize.ShloMosaic

/-! ## Sums of extended reals -/

/-- A real factor that is not negative goes into a sum. -/
theorem sum_mul_real {ι : Type} (S : Finset ι) (f : ι → EReal) {x : ℝ} (hx : 0 ≤ x) : (∑ i ∈ S, f i) * (x : EReal) = ∑ i ∈ S, f i * (x : EReal) := by
  induction S using Finset.cons_induction with
  | empty => simp
  | cons a S h ih =>
    rw [Finset.sum_cons, Finset.sum_cons, ← ih]
    exact EReal.right_distrib_of_nonneg_of_ne_top (EReal.coe_nonneg.2 hx) (EReal.coe_ne_top x) _ _

theorem coe_sum {ι : Type} (S : Finset ι) (f : ι → ℝ) : ((∑ i ∈ S, f i : ℝ) : EReal) = ∑ i ∈ S, ((f i : ℝ) : EReal) := by
  induction S using Finset.cons_induction with
  | empty => simp
  | cons a S h ih => rw [Finset.sum_cons, Finset.sum_cons, ← ih, EReal.coe_add]

theorem exp_sub (a b : ℝ) : Ideal.exp ((a : EReal) - (b : EReal)) = ((Real.exp (a - b) : ℝ) : EReal) := by
  rw [← EReal.coe_sub]; rfl

/-- The greatest of some real numbers, at least one, is real. -/
theorem fold_max_real {ι : Type} [Fintype ι] [Nonempty ι] (f : ι → ℝ) : ∃ μ : ℝ, Finset.univ.fold max (⊥ : EReal) (fun i => (f i : EReal)) = μ := by
  obtain ⟨i, -, h⟩ := Finset.exists_mem_eq_sup Finset.univ Finset.univ_nonempty (fun i => (f i : EReal))
  exact ⟨f i, h⟩

/-- The greater of a real number and the greatest of some is real, -/
theorem max_real {ι : Type} [Fintype ι] [Nonempty ι] (μ : ℝ) (f : ι → ℝ) : ∃ μ' : ℝ, max (μ : EReal) (Finset.univ.fold max (⊥ : EReal) fun i => (f i : EReal)) = μ' := by
  obtain ⟨ν, h⟩ := fold_max_real f
  exact ⟨max μ ν, by rw [h]; exact (EReal.coe_strictMono.monotone.map_max).symm⟩

/-- and so is the greatest of some against minus infinity. -/
theorem max_bot_real {ι : Type} [Fintype ι] [Nonempty ι] (f : ι → ℝ) : ∃ μ' : ℝ, max (⊥ : EReal) (Finset.univ.fold max (⊥ : EReal) fun i => (f i : EReal)) = μ' := by
  obtain ⟨ν, h⟩ := fold_max_real f
  exact ⟨ν, by rw [h, max_eq_right bot_le]⟩

/-! ## Block by block -/

section Blocks

variable {B R : Type} [DecidableEq B] [Fintype R] (s : B → R → ℝ) (V : B → R → EReal)

/-- After the blocks of `T`: a real `M`, the sum `L` of the exponentials of the scores less `M`, and the sum `A` of the values
    times these exponentials. -/
def Running (T : Finset B) (M L A : EReal) : Prop :=
  ∃ μ : ℝ, M = μ ∧ L = ((∑ b ∈ T, ∑ r, Real.exp (s b r - μ) : ℝ) : EReal)
    ∧ A = ∑ b ∈ T, ∑ r, ((Real.exp (s b r - μ) : ℝ) : EReal) * V b r

/-- What one block adds to the sum of exponentials, and to the sum of values. -/
theorem block_sum (b : B) (μ : ℝ) : ∑ r, Ideal.exp ((s b r : EReal) - (μ : EReal)) = ((∑ r, Real.exp (s b r - μ) : ℝ) : EReal) := by
  rw [coe_sum]; exact Finset.sum_congr rfl fun r _ => exp_sub _ _
theorem block_values (b : B) (μ : ℝ) :
    ∑ r, Ideal.exp ((s b r : EReal) - (μ : EReal)) * V b r = ∑ r, ((Real.exp (s b r - μ) : ℝ) : EReal) * V b r :=
  Finset.sum_congr rfl fun r _ => by rw [exp_sub]

/-- The first block: what was there before is multiplied by nothing. -/
theorem Running.first (b : B) {M : EReal} (x : EReal) (h : ∃ μ : ℝ, M = μ) :
    Running s V {b} M (0 * x + ∑ r, Ideal.exp ((s b r : EReal) - M)) (0 * x + ∑ r, Ideal.exp ((s b r : EReal) - M) * V b r) := by
  obtain ⟨μ, rfl⟩ := h
  refine ⟨μ, rfl, ?_, ?_⟩
  · rw [zero_mul, zero_add, block_sum, Finset.sum_singleton]
  · rw [zero_mul, zero_add, block_values, Finset.sum_singleton]

variable {s V}

/-- A further block: both sums are rescaled to the new `M'` and the block's are added. -/
theorem Running.next {T : Finset B} {M L A M' : EReal} (h : Running s V T M L A) {b : B} (hb : b ∉ T) (h' : ∃ μ' : ℝ, M' = μ') :
    Running s V (insert b T) M' (L * Ideal.exp (M - M') + ∑ r, Ideal.exp ((s b r : EReal) - M'))
      (A * Ideal.exp (M - M') + ∑ r, Ideal.exp ((s b r : EReal) - M') * V b r) := by
  obtain ⟨μ, rfl, rfl, rfl⟩ := h
  obtain ⟨μ', rfl⟩ := h'
  have e : ∀ b r, Real.exp (s b r - μ) * Real.exp (μ - μ') = Real.exp (s b r - μ') := fun b r => by
    rw [← Real.exp_add]; congr 1; ring
  refine ⟨μ', rfl, ?_, ?_⟩
  · rw [exp_sub, block_sum, ← EReal.coe_mul, ← EReal.coe_add, Finset.sum_insert hb, add_comm (∑ r, _), Finset.sum_mul]
    congr 2
    exact Finset.sum_congr rfl fun b _ => by rw [Finset.sum_mul]; exact Finset.sum_congr rfl fun r _ => e b r
  · rw [exp_sub, block_values, Finset.sum_insert hb, add_comm (∑ r, _), sum_mul_real _ _ (Real.exp_pos _).le]
    congr 1
    refine Finset.sum_congr rfl fun b _ => ?_
    rw [sum_mul_real _ _ (Real.exp_pos _).le]
    exact Finset.sum_congr rfl fun r _ => by rw [mul_right_comm, ← EReal.coe_mul, e]

end Blocks

/-! ## The weights -/

/-- The weight of position `i`: its exponential over the sum of all. -/
def weight {ι : Type} [Fintype ι] (s : ι → ℝ) (i : ι) : ℝ := Real.exp (s i) / ∑ j, Real.exp (s j)

/-- A number subtracted from every score leaves the weights. -/
theorem weight_shift {ι : Type} [Fintype ι] (s : ι → ℝ) (μ : ℝ) (i : ι) :
    Real.exp (s i - μ) / ∑ j, Real.exp (s j - μ) = weight s i := by
  unfold weight
  simp only [Real.exp_sub]
  rw [← Finset.sum_div]
  exact div_div_div_cancel_right₀ (Real.exp_pos μ).ne' _ _

theorem sum_exp_pos {ι : Type} [Fintype ι] [Nonempty ι] (s : ι → ℝ) : 0 < ∑ j, Real.exp (s j) :=
  Finset.sum_pos (fun _ _ => Real.exp_pos _) Finset.univ_nonempty

/-- Division by a real number that is not zero is multiplication by its inverse. -/
theorem div_real (x : EReal) {y : ℝ} (hy : y ≠ 0) : Ideal.div x (y : EReal) = x * ((y⁻¹ : ℝ) : EReal) := by
  unfold Ideal.div
  rw [if_neg (by exact_mod_cast hy), EReal.coe_inv]

/-- The row at once: each exponential divided by the sum of all, then the values weighted. -/
theorem whole_row {ι : Type} [Fintype ι] [Nonempty ι] (s : ι → ℝ) (V : ι → EReal) {M : EReal} (h : ∃ μ : ℝ, M = μ) :
    ∑ i, Ideal.div (Ideal.exp ((s i : EReal) - M)) (∑ j, Ideal.exp ((s j : EReal) - M)) * V i = ∑ i, ((weight s i : ℝ) : EReal) * V i := by
  obtain ⟨μ, rfl⟩ := h
  have e : ∑ j, Ideal.exp ((s j : EReal) - (μ : EReal)) = ((∑ j, Real.exp (s j - μ) : ℝ) : EReal) := by
    rw [coe_sum]; exact Finset.sum_congr rfl fun j _ => exp_sub _ _
  refine Finset.sum_congr rfl fun i _ => ?_
  rw [e, exp_sub, div_real _ (sum_exp_pos fun j => s j - μ).ne', ← EReal.coe_mul, ← div_eq_mul_inv, weight_shift]

/-- All blocks done: the sum of values over the sum of exponentials is the weighted sum over all positions. -/
theorem Running.done {B R : Type} [DecidableEq B] [Fintype B] [Fintype R] [Nonempty B] [Nonempty R] {s : B → R → ℝ} {V : B → R → EReal} {M L A : EReal}
    (h : Running s V Finset.univ M L A) : Ideal.div A L = ∑ p : B × R, ((weight (fun p : B × R => s p.1 p.2) p : ℝ) : EReal) * V p.1 p.2 := by
  obtain ⟨μ, rfl, rfl, rfl⟩ := h
  have pos := sum_exp_pos fun p : B × R => s p.1 p.2 - μ
  rw [← Fintype.sum_prod_type' (f := fun b r => Real.exp (s b r - μ)),
    ← Fintype.sum_prod_type' (f := fun b r => ((Real.exp (s b r - μ) : ℝ) : EReal) * V b r),
    div_real _ pos.ne', sum_mul_real _ _ (inv_pos.2 pos).le]
  refine Finset.sum_congr rfl fun p _ => ?_
  rw [mul_right_comm, ← EReal.coe_mul, ← div_eq_mul_inv, weight_shift (fun p : B × R => s p.1 p.2)]

/-- Renaming the positions renames the weighted sum. -/
theorem weighted_equiv {ι κ : Type} [Fintype ι] [Fintype κ] (e : κ ≃ ι) (s : ι → ℝ) (V : ι → EReal) :
    ∑ p, ((weight (fun p => s (e p)) p : ℝ) : EReal) * V (e p) = ∑ i, ((weight s i : ℝ) : EReal) * V i := by
  rw [← Equiv.sum_comp e fun i => ((weight s i : ℝ) : EReal) * V i]
  refine Finset.sum_congr rfl fun p _ => ?_
  unfold weight
  rw [Equiv.sum_comp e fun i => Real.exp (s i)]

end Cert.Softmax

end
-- ==== Proof.Block.lean ====
/-
The block of attention a device computes, read at a row and a column: four steps of the running sums.
-/
module

public import proofs.«01_k».proof.Proof.KernelIdeal.Body
public import proofs.«01_k».proof.Proof.Softmax
public import Idealize.ShloMosaic.Lib.Pointwise

@[expose] public section

set_option maxRecDepth 16384

noncomputable section

namespace Cert.KernelIdeal.Exchange

open Cert.KernelIdeal Cert.KernelIdeal.Gen
open Idealize.ShloMosaic

/-! ## One step on a block, at an index -/

/-- The score of row `i` of the queries against row `r` of a block of keys. -/
def scoreAt (q k : Vec Ideal S512x128 .bf16) (i r : Fin 512) : EReal := ∑ x : Fin 128, q (ix2 i x) * k (ix2 r x)

theorem ofBits_neg_inf : Ideal.ofBits .f32 0xFF800000#32 = ⊥ := by
  simp [Ideal.ofBits, Ideal.ieee]

theorem step_max (q k : Vec Ideal S512x128 .bf16) (t : FVec Ideal S512x1 .f32) (i : Fin 512) :
    k0_pay12 q t (lift k) (ix2 i 0) = max (t (ix2 i 0)) (Finset.univ.fold max ⊥ fun r => scoreAt q k i r) := by
  unfold k0_pay12 k0_pay11
  rw [unlift]
  pointwise [scoreAt, ofBits_neg_inf]

theorem step_sum (q k : Vec Ideal S512x128 .bf16) (t l : FVec Ideal S512x1 .f32) (i : Fin 512) :
    k0_pay15 q t l (lift k) (ix2 i 0) = l (ix2 i 0) * Ideal.exp (t (ix2 i 0) - k0_pay12 q t (lift k) (ix2 i 0))
      + ∑ r : Fin 512, Ideal.exp (scoreAt q k i r - k0_pay12 q t (lift k) (ix2 i 0)) := by
  unfold k0_pay15 k0_pay13 k0_pay14 k0_pay11
  rw [unlift]
  pointwise [scoreAt]

theorem step_values (q k v : Vec Ideal S512x128 .bf16) (t : FVec Ideal S512x1 .f32) (a : FVec Ideal S512x128 .f32) (i : Fin 512) (d : Fin 128) :
    k0_pay16 q t a (lift k) (lift v) (ix2 i d) = a (ix2 i d) * Ideal.exp (t (ix2 i 0) - k0_pay12 q t (lift k) (ix2 i 0))
      + ∑ r : Fin 512, Ideal.exp (scoreAt q k i r - k0_pay12 q t (lift k) (ix2 i 0)) * v (ix2 r d) := by
  unfold k0_pay16 k0_pay13 k0_pay14 k0_pay11
  rw [unlift, unlift]
  pointwise [scoreAt]

/-! ## The four steps -/

def zero1 : FVec Ideal S512x1 .f32 := broadcast S512x1 (Scalar.ofBits .f32 0x00000000#32)
def zero2 : FVec Ideal S512x128 .f32 := broadcast S512x128 (Scalar.ofBits .f32 0x00000000#32)

/-- The first step is a step from minus infinity and two zeros. -/
theorem first_max (q k : Vec Ideal S512x128 .bf16) : k0_pay6 q k = k0_pay12 q (k0_pay4 (F := Ideal)) (lift k) := by
  unfold k0_pay12 k0_pay11; rw [unlift]; rfl
theorem first_sum (q k : Vec Ideal S512x128 .bf16) : k0_pay9 q k = k0_pay15 q (k0_pay4 (F := Ideal)) zero1 (lift k) := by
  unfold k0_pay15 k0_pay13 k0_pay14; rw [← first_max]; unfold k0_pay11; rw [unlift]; rfl
theorem first_values (q k v : Vec Ideal S512x128 .bf16) : k0_pay10 q k v = k0_pay16 q (k0_pay4 (F := Ideal)) zero2 (lift k) (lift v) := by
  unfold k0_pay16 k0_pay13 k0_pay14; rw [← first_max]; unfold k0_pay11; rw [unlift, unlift]; rfl

/-- The last step, and the division. -/
theorem last_step (q k v : Vec Ideal S512x128 .bf16) (t l : FVec Ideal S512x1 .f32) (a : FVec Ideal S512x128 .f32) :
    k0_pay23 q t l a (lift k) (lift v)
      = divf (k0_pay16 q t a (lift k) (lift v)) (broadcastTo S512x128 (k0_pay15 q t l (lift k)) broadcasts_S512x1_S512x128) := rfl

theorem last_at (q k v : Vec Ideal S512x128 .bf16) (t l : FVec Ideal S512x1 .f32) (a : FVec Ideal S512x128 .f32) (i : Fin 512) (d : Fin 128) :
    k0_pay23 q t l a (lift k) (lift v) (ix2 i d)
      = Ideal.div (k0_pay16 q t a (lift k) (lift v) (ix2 i d)) (k0_pay15 q t l (lift k) (ix2 i 0)) := by
  rw [last_step]
  generalize k0_pay16 q t a (lift k) (lift v) = A
  generalize k0_pay15 q t l (lift k) = L
  pointwise

/-- A row's scores on the four blocks being real, the block's row is the softmax-weighted sum of the values: whatever the
    order of the blocks, each taken once. -/
theorem attend_at {q : Vec Ideal S512x128 .bf16} {K V : Fin 4 → Vec Ideal S512x128 .bf16} {i : Fin 512} {s : Fin 4 → Fin 512 → ℝ}
    (hs : ∀ b r, scoreAt q (K b) i r = (s b r : EReal)) {b0 b1 b2 b3 : Fin 4} (h1 : b1 ∉ ({b0} : Finset (Fin 4))) (h2 : b2 ∉ insert b1 ({b0} : Finset (Fin 4)))
    (h3 : b3 ∉ insert b2 (insert b1 ({b0} : Finset (Fin 4)))) (hall : insert b3 (insert b2 (insert b1 ({b0} : Finset (Fin 4)))) = Finset.univ) (d : Fin 128) :
    attend q (K b0) (K b1) (K b2) (K b3) (V b0) (V b1) (V b2) (V b3) (ix2 i d)
      = ∑ p : Fin 4 × Fin 512, ((Softmax.weight (fun p : Fin 4 × Fin 512 => s p.1 p.2) p : ℝ) : EReal) * V p.1 (ix2 p.2 d) := by
  have hmax (t : FVec Ideal S512x1 .f32) (b : Fin 4) (h : ∃ μ : ℝ, t (ix2 i 0) = μ) : ∃ μ : ℝ, k0_pay12 q t (lift (K b)) (ix2 i 0) = μ := by
    obtain ⟨μ, h⟩ := h
    rw [step_max, h]; simp only [hs]; exact Softmax.max_real μ _
  have hmax0 (b : Fin 4) : ∃ μ : ℝ, k0_pay12 q (k0_pay4 (F := Ideal)) (lift (K b)) (ix2 i 0) = μ := by
    rw [step_max]; simp only [hs]
    rw [show (k0_pay4 (F := Ideal)) (ix2 i 0) = ⊥ from ofBits_neg_inf]
    exact Softmax.max_bot_real _
  have next {T : Finset (Fin 4)} {t l : FVec Ideal S512x1 .f32} {a : FVec Ideal S512x128 .f32} {b : Fin 4} (hb : b ∉ T)
      (h : Softmax.Running s (fun b r => V b (ix2 r d)) T (t (ix2 i 0)) (l (ix2 i 0)) (a (ix2 i d))) :
      Softmax.Running s (fun b r => V b (ix2 r d)) (insert b T) (k0_pay12 q t (lift (K b)) (ix2 i 0)) (k0_pay15 q t l (lift (K b)) (ix2 i 0))
        (k0_pay16 q t a (lift (K b)) (lift (V b)) (ix2 i d)) := by
    have g := h.next hb (hmax t b (by obtain ⟨μ, h, -⟩ := h; exact ⟨μ, h⟩))
    simp only [step_sum, step_values, hs]
    exact g
  have first (b : Fin 4) : Softmax.Running s (fun b r => V b (ix2 r d)) {b} (k0_pay6 q (K b) (ix2 i 0)) (k0_pay9 q (K b) (ix2 i 0)) (k0_pay10 q (K b) (V b) (ix2 i d)) := by
    have g := Softmax.Running.first s (fun b r => V b (ix2 r d)) b
      (Ideal.exp ((k0_pay4 (F := Ideal)) (ix2 i 0) - k0_pay12 q (k0_pay4 (F := Ideal)) (lift (K b)) (ix2 i 0))) (hmax0 b)
    rw [first_max, first_sum, first_values]
    simp only [step_sum, step_values, hs]
    rw [show zero1 (ix2 i 0) = 0 from Ideal.ofBits_zero_f32, show zero2 (ix2 i d) = 0 from Ideal.ofBits_zero_f32]
    exact g
  have g := next h3 (next h2 (next h1 (first b0)))
  rw [hall] at g
  exact (last_at _ _ _ _ _ _ _ _).trans g.done

end Cert.KernelIdeal.Exchange

end
-- ==== Proof.Whole.lean ====
/-
The reference's result, read at a row and a column.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Whole

open Cert.ReferenceIdeal Cert.ReferenceIdeal.Gen
open Idealize.ShloMosaic

/-- The scores of the whole arrays: products over the square root of 128. -/
def scores (q k : FVec Ideal S2048x128 .f32) : FVec Ideal S2048x2048 .f32 :=
  Host.divf (Host.dotGeneral dot_S2048x128_S128x2048_S2048x2048_1_0_0_1_n_n none q (transpose S128x2048 [1, 0] k transposes_S2048x128_S128x2048_1_0))
    (broadcastInDim S2048x2048 ![] bcast_S_S2048x2048 (id (Host.sqrt (constant S_ .f32 0x43000000#32))))

/-- Each row's greatest score, along the row. -/
def greatest (s : FVec Ideal S2048x2048 .f32) : FVec Ideal S2048x2048 .f32 :=
  broadcastInDim S2048x2048 ![0, 1] bcast_S2048x1_S2048x2048_0_1 (broadcastInDim S2048x1 ![0] bcast_S2048_S2048x1_0
    (Host.reduce FloatOps.maximumf s (constant S_ .f32 0xFF800000#32) reducesTo_S2048x2048_S2048_d1 h_S_))

/-- The weights times the values, from the scores. -/
def weighted (s : FVec Ideal S2048x2048 .f32) (v : FVec Ideal S2048x128 .f32) : FVec Ideal S2048x128 .f32 :=
  Host.dotGeneral dot_S2048x2048_S2048x128_S2048x128_1_0_0_1_n_n none
    (Host.divf (Host.exp (subf s (greatest s)))
      (broadcastInDim S2048x2048 ![0, 1] bcast_S2048x1_S2048x2048_0_1 (broadcastInDim S2048x1 ![0] bcast_S2048_S2048x1_0
        (Host.reduceAdd (Host.exp (subf s (greatest s))) (constant S_ .f32 0x00000000#32) reducesTo_S2048x2048_S2048_d1 h_S_)))) v

theorem ofBits_128 : Ideal.ofBits .f32 0x43000000#32 = ((128 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem sqrt_128 : Ideal.sqrt ((128 : ℝ) : EReal) = ((Real.sqrt 128 : ℝ) : EReal) := by
  rw [Ideal.sqrt_coe, if_neg (by norm_num)]

theorem scores_at (q k : FVec Ideal S2048x128 .f32) (i j : Fin 2048) :
    scores q k (ix2 i j) = Ideal.div (∑ x : Fin 128, q (ix2 i x) * k (ix2 j x)) ((Real.sqrt 128 : ℝ) : EReal) := by
  pointwise [scores, id_eq, ofBits_128, sqrt_128]

theorem greatest_at (s : FVec Ideal S2048x2048 .f32) (i j : Fin 2048) :
    greatest s (ix2 i j) = Finset.univ.fold max ⊥ fun j : Fin 2048 => s (ix2 i j) := by
  pointwise [greatest, ofBits_neg_inf]

theorem weighted_at (s : FVec Ideal S2048x2048 .f32) (v : FVec Ideal S2048x128 .f32) (i : Fin 2048) (d : Fin 128) :
    weighted s v (ix2 i d) = ∑ j : Fin 2048, Ideal.div (Ideal.exp (s (ix2 i j) - greatest s (ix2 i 0)))
      (∑ j' : Fin 2048, Ideal.exp (s (ix2 i j') - greatest s (ix2 i 0))) * v (ix2 j d) := by
  have h (j : Fin 2048) : greatest s (ix2 i j) = greatest s (ix2 i 0) := (greatest_at s i j).trans (greatest_at s i 0).symm
  unfold weighted
  generalize hg : greatest s = g at h
  pointwise [h]

/-- A row with real scores: its element in a column is the softmax-weighted sum of the column. -/
theorem weighted_row {s : FVec Ideal S2048x2048 .f32} (v : FVec Ideal S2048x128 .f32) {i : Fin 2048} {r : Fin 2048 → ℝ}
    (h : ∀ j, s (ix2 i j) = (r j : EReal)) (d : Fin 128) :
    weighted s v (ix2 i d) = ∑ j, ((Softmax.weight r j : ℝ) : EReal) * v (ix2 j d) := by
  rw [weighted_at, greatest_at]
  simp only [h]
  exact Softmax.whole_row r (fun j => v (ix2 j d)) (Softmax.fold_max_real r)

end Cert.ReferenceIdeal.Whole

end
-- ==== Proof.Finite.lean ====
/-
The precondition: where it holds, a device's queries and keys are real numbers.
-/
module

public import proofs.«01_k».proof.Pre_finite_KernelIdeal
public import proofs.«01_k».proof.Proof.Gen.Pre_finite_KernelIdeal
public import Idealize.ShloMosaic.PureOps.Ideal
public import Idealize.ShloMosaic.Lib.ReduceAll
public import Idealize.ShloMosaic.Lib.Pointwise

@[expose] public section

noncomputable section

namespace Cert.Pre_finite_KernelIdeal.Meaning

open Cert.Pre_finite_KernelIdeal Cert.Pre_finite_KernelIdeal.Gen
open Idealize.ShloMosaic

theorem ofBits_inf : Ideal.ofBits .f32 0x7F800000#32 = ⊤ := by
  simp [Ideal.ofBits, Ideal.ieee]

/-- An extended real whose absolute value is below infinity is real. -/
theorem real_of_abs {x : EReal} (h : max x (-x) < ⊤) : ∃ r : ℝ, x = r := by
  induction x with
  | bot => simp at h
  | top => simp at h
  | coe r => exact ⟨r, rfl⟩

/-- One bit of the comparison, read. -/
theorem real_of_bit (x : FVec Ideal S512x128 .f32) (i : S512x128.Idx)
    (h : cmpf .olt (Host.absf x) (broadcastInDim S512x128 ![] bcast_S_S512x128 (constant (F := Ideal) S_ .f32 0x7F800000#32)) i = 1#1) :
    ∃ r : ℝ, x i = r := by
  refine real_of_abs ?_
  have h' : Ideal.cmp .olt (max (x i) (-(x i))) (Ideal.ofBits .f32 0x7F800000#32) = 1#1 := h
  rw [ofBits_inf] at h'
  by_contra hn
  rw [show ∀ y : EReal, Ideal.cmp .olt y ⊤ = BitVec.ofBool (decide (y < ⊤)) from fun _ => rfl, decide_eq_false hn] at h'
  exact absurd h' (by decide)

theorem and_eq_one {a b : BitVec 1} (h : a &&& b = 1#1) : a = 1#1 ∧ b = 1#1 := by
  revert h a b; decide

/-- The precondition's two halves, each read element by element. -/
theorem real_of_pre {q k v : FVec Ideal S512x128 .f32} (h : fn (F := Ideal) q k v = fun _ => 1#1) :
    (∀ i, ∃ r : ℝ, q i = r) ∧ ∀ i, ∃ r : ℝ, k i = r := by
  haveI : Subsingleton S_.Idx := ⟨fun a b => funext fun d => d.elim0⟩
  have h0 := and_eq_one (congrFun h fun d => d.elim0)
  exact ⟨fun i => real_of_bit q i (Host.reduce_andi_all _ _ _ _ _ h0.1 i),
    fun i => real_of_bit k i (Host.reduce_andi_all _ _ _ _ _ h0.2 i)⟩

end Cert.Pre_finite_KernelIdeal.Meaning

end
-- ==== Proof.Value.lean ====
/-
The kernel's blocks are the reference's result, block by block: both are the weighted sum of the values over all
2048 rows, the kernel's rows counted by device and row, the reference's by row.
-/
module

public import proofs.«01_k».proof.Defs
public import proofs.«01_k».proof.Proof.KernelIdeal.Run
public import proofs.«01_k».proof.Proof.Block
public import proofs.«01_k».proof.Proof.Whole
public import proofs.«01_k».proof.Proof.Finite

@[expose] public section

set_option maxRecDepth 16384

noncomputable section

namespace Cert.Value

open Idealize.ShloMosaic Idealize.SL.Sem
open Cert.KernelIdeal.Exchange

/-! ## Rows of the whole array by device and row -/

abbrev Whole := FVec Ideal ⟨2, ![2048, 128]⟩ .f32
abbrev Part := FVec Ideal ⟨2, ![512, 128]⟩ .f32

/-- Row `r` of device `c`'s block is row `r + 512 c` of the whole array. -/
def row : Fin 4 × Fin 512 ≃ Fin 2048 := finProdFinEquiv

def part (c : Fin 4) (v : Whole) : Part := Layout.block ⟨2, ![512, 128]⟩ ⟨2, ![2048, 128]⟩ 0 4 c v

theorem part_at (c : Fin 4) (v : Whole) (r : Fin 512) (x : Fin 128) : part c v (ix2 r x) = v (ix2 (row (c, r)) x) := by
  unfold part
  rw [Layout.block_apply]
  refine congrArg v (funext fun a => Fin.ext ?_)
  fin_cases a
  · exact (Nat.add_comm _ _).trans (congrArg (r.val + ·) (Nat.mul_comm _ _))
  · rfl

/-! ## What a device sends and multiplies, at an index -/

section Payloads
open Cert.KernelIdeal Cert.KernelIdeal.Gen

def query (q : Whole) (c : Fin 4) : Vec Ideal S512x128 .bf16 := k0_pay3 (F := Ideal) (part c q)
def key (k : Whole) (c : Fin 4) : Vec Ideal S512x128 .bf16 := k0_pay1 (F := Ideal) (part c k)
def value (v : Whole) (c : Fin 4) : Vec Ideal S512x128 .bf16 := k0_pay2 (F := Ideal) (part c v)

theorem scale_eq : Named.named (F := Ideal) (φ := .f32) κ "scale" 0x3DB504F3#32 = (((Real.sqrt 128)⁻¹ : ℝ) : EReal) :=
  IdealRules.named_const.ideal_named_scalar _ _ _ _ rfl

theorem query_at (q : Whole) (c : Fin 4) (r : Fin 512) (x : Fin 128) :
    query q c (ix2 r x) = q (ix2 (row (c, r)) x) * (((Real.sqrt 128)⁻¹ : ℝ) : EReal) := by
  rw [← part_at c q, query]
  generalize part c q = p
  pointwise [k0_pay3, scale_eq]

theorem key_at (k : Whole) (c : Fin 4) (r : Fin 512) (x : Fin 128) : key k c (ix2 r x) = k (ix2 (row (c, r)) x) := by
  rw [← part_at c k, key]
  generalize part c k = p
  pointwise [k0_pay1]

theorem value_at (v : Whole) (c : Fin 4) (r : Fin 512) (x : Fin 128) : value v c (ix2 r x) = v (ix2 (row (c, r)) x) := by
  rw [← part_at c v, value]
  generalize part c v = p
  pointwise [k0_pay2]

/-- What a device stores: its own block first, then the three it was sent in the order it takes them. -/
def stored (q k v : Whole) (c : Fin 4) : Part :=
  attend (F := Ideal) (query q c) (key k c) (key k (tgt c 2)) (key k (tgt c 0)) (key k (tgt c 1))
    (value v c) (value v (tgt c 2)) (value v (tgt c 0)) (value v (tgt c 1))

end Payloads

/-! ## The scores -/

/-- The score of row `i` of the queries against row `j` of the keys. -/
def score (Q K : Fin 2048 → Fin 128 → ℝ) (i j : Fin 2048) : ℝ := (∑ x, Q i x * K j x) * (Real.sqrt 128)⁻¹

section Equal

variable {q k : Whole} {Q K : Fin 2048 → Fin 128 → ℝ}
  (hQ : ∀ i x, q (ix2 i x) = (Q i x : EReal)) (hK : ∀ i x, k (ix2 i x) = (K i x : EReal))
include hQ hK

theorem scores_real (i j : Fin 2048) : Cert.ReferenceIdeal.Whole.scores q k (ix2 i j) = (score Q K i j : EReal) := by
  rw [Cert.ReferenceIdeal.Whole.scores_at, Softmax.div_real _ (by positivity), score, EReal.coe_mul, Softmax.coe_sum]
  simp only [hQ, hK, EReal.coe_mul]

theorem score_block (c b : Fin 4) (i r : Fin 512) :
    scoreAt (query q c) (key k b) i r = (score Q K (row (c, i)) (row (b, r)) : EReal) := by
  unfold scoreAt
  simp only [key_at, query_at, hQ, hK, ← EReal.coe_mul]
  rw [← Softmax.coe_sum, score, Finset.sum_mul]
  exact congrArg _ (Finset.sum_congr rfl fun x _ => by ring)

/-- A device's block of the result is its block of the reference's. -/
theorem stored_eq (v : Whole) (c : Fin 4) :
    stored q k v c = part c (Cert.ReferenceIdeal.Whole.weighted (Cert.ReferenceIdeal.Whole.scores q k) v) := by
  funext j
  idx_vars j
  rw [part_at, Cert.ReferenceIdeal.Whole.weighted_row v (scores_real hQ hK (row (c, j0))) j1,
    ← Softmax.weighted_equiv row]
  refine (attend_at (q := query q c) (K := key k) (V := value v) (score_block hQ hK c · j0)
    (b0 := c) (b1 := tgt c 2) (b2 := tgt c 0) (b3 := tgt c 1)
    (by revert c; decide) (by revert c; decide) (by revert c; decide) (by revert c; decide) j1).trans ?_
  simp only [value_at]

end Equal

/-! ## From the precondition -/

/-- Every element of an array is an element of some device's block of it. -/
theorem real_of_parts {v : Whole} (h : ∀ (c : Fin 4) i, ∃ r : ℝ, part c v i = r) :
    ∃ V : Fin 2048 → Fin 128 → ℝ, ∀ i x, v (ix2 i x) = (V i x : EReal) := by
  have h' (i : Fin 2048) (x : Fin 128) : ∃ r : ℝ, v (ix2 i x) = r := by
    obtain ⟨r, hr⟩ := h (row.symm i).1 (ix2 (row.symm i).2 x)
    refine ⟨r, ?_⟩
    rw [part_at, Prod.mk.eta, Equiv.apply_symm_apply] at hr
    exact hr
  choose V hV using h'
  exact ⟨V, hV⟩

/-- What a device stores, from the blocks of the whole arrays the devices were handed. -/
theorem device_out (m : (ℓ : Loc Cert.KernelIdeal.nD Cert.KernelIdeal.τ Cert.KernelIdeal.sig) → Buf (Elt Ideal) ℓ)
    (g : Dev Cert.KernelIdeal.nD → PrngReg) (c : Fin 4) {q k v : Whole}
    (hq : ∀ c : Dev Cert.KernelIdeal.nD, m ((c.tc : Thread Cert.KernelIdeal.nD Cert.KernelIdeal.τ).loc Cert.KernelIdeal.main_arg0) = part c q)
    (hk : ∀ c : Dev Cert.KernelIdeal.nD, m ((c.tc : Thread Cert.KernelIdeal.nD Cert.KernelIdeal.τ).loc Cert.KernelIdeal.main_arg1) = part c k)
    (hv : ∀ c : Dev Cert.KernelIdeal.nD, m ((c.tc : Thread Cert.KernelIdeal.nD Cert.KernelIdeal.τ).loc Cert.KernelIdeal.main_arg2) = part c v) :
    outAt m g c = stored q k v c := by
  have hq' (d : Dev Cert.KernelIdeal.nD) : qstg m g d = part d q := (read_q _).trans (hq d)
  have hk' (d : Dev Cert.KernelIdeal.nD) : kstg m g d = part d k := (read_k _).trans (hk d)
  have hv' (d : Dev Cert.KernelIdeal.nD) : vstg m g d = part d v := (read_v _).trans (hv d)
  simp only [outAt, blk, hq', hk', hv', stored, query, key, value]

theorem algebraic : Cert.algebraic_KernelIdeal_ReferenceIdeal_pre_finite_KernelIdeal := by
  intro m g m' g' hpre hargs
  have hp (c : Dev Cert.KernelIdeal.nD) := Cert.Pre_finite_KernelIdeal.Meaning.real_of_pre (hpre c)
  obtain ⟨Q, hQ⟩ := real_of_parts fun c i => by
    rw [part, ← (hargs c).1]
    exact (hp c).1 i
  obtain ⟨K, hK⟩ := real_of_parts fun c i => by
    rw [part, ← (hargs c).2.1]
    exact (hp c).2 i
  have hout (c : Dev Cert.KernelIdeal.nD) := (device_out m g c (hargs · |>.1) (hargs · |>.2.1) (hargs · |>.2.2)).trans (stored_eq hQ hK _ c)
  exact ⟨_, (θ_run Cert.KernelIdeal.defs _ _).mono (fun r h c => ⟨(h.1 c).1.trans (hout c), (h.1 c).2⟩)
    (Cert.KernelIdeal.Exchange.run_arrays (F := Ideal) m g),
    (θ_run Cert.ReferenceIdeal.defs _ _).mono (fun r h => h 0) (Cert.ReferenceIdeal.Value.run (F := Ideal) m' g')⟩

end Cert.Value

end
-- ==== Proof.lean ====
/-
The certificate's claims put together: the two runs' frames, the reference's, the one named constant, and the equality
of the results.
-/
module

public import proofs.«01_k».proof.Defs
public import proofs.«01_k».proof.Proof.Kernel.Run
public import proofs.«01_k».proof.Proof.KernelIdeal.Run
public import proofs.«01_k».proof.Proof.Value
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.SL.Sem

theorem frame_P : Cert.quiescent_Kernel := fun m g _ =>
  (θ_run Cert.Kernel.defs _ _).mono (fun _ h => ⟨fun c => (h.1 c).2, h.2⟩) (Cert.Kernel.Exchange.run_arrays (F := Bits) m g)

theorem frame_PI : Cert.quiescent_KernelIdeal := fun m g _ =>
  (θ_run Cert.KernelIdeal.defs _ _).mono (fun _ h => ⟨fun c => (h.1 c).2, h.2⟩) (Cert.KernelIdeal.Exchange.run_arrays (F := Ideal) m g)

theorem frame_PI_pre : Cert.quiescent_KernelIdeal_pre_finite_KernelIdeal := fun m g _ =>
  frame_PI m g trivial

/-- The reference has no semaphores, so every counter it has is zero. -/
theorem frame_RI : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_RI_pre : Cert.quiescent_ReferenceIdeal_pre_finite_ReferenceIdeal := fun m g _ =>
  frame_RI m g trivial

/-- The table's entry for `scale` is the real the kernel's constant is computed from. -/
theorem preserves : Cert.preserves_Kernel_KernelIdeal :=
  IdealRules.named_const.statement Cert.KernelIdeal.κ "scale" .f32 0x3DB504F3#32 (((Real.sqrt 128)⁻¹ : ℝ) : EReal) rfl

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    frame_P, frame_PI, frame_PI_pre, frame_RI, frame_RI_pre, preserves, Cert.Value.algebraic⟩

end Cert.Proof

end
